-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x8192 : Shape := ⟨2, ![4096, 8192]⟩
abbrev S1 : Shape := ⟨1, ![1]⟩
abbrev S1024x8192 : Shape := ⟨2, ![1024, 8192]⟩
abbrev S1024x512 : Shape := ⟨2, ![1024, 512]⟩
abbrev S1024x4096 : Shape := ⟨2, ![1024, 4096]⟩
abbrev S3x4096x512 : Shape := ⟨3, ![3, 4096, 512]⟩
abbrev S3 : Shape := ⟨1, ![3]⟩
abbrev S_ : Shape := ⟨0, ![]⟩
abbrev S1x4096x512 : Shape := ⟨3, ![1, 4096, 512]⟩
abbrev S4096x512 : Shape := ⟨2, ![4096, 512]⟩
abbrev S1024x1024 : Shape := ⟨2, ![1024, 1024]⟩

abbrev nBuf : Space → Nat
  | .hbm => 5
  | .vmem => 6
  | .smem => 2
  | _ => 0

abbrev bufTy : (tb : Table) → Fin (tcTables nBuf tb) → BufTy
  | .hbm, ⟨0, _⟩ => ⟨S4096x1024, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S1024x8192, .f32⟩
  | .local _ .vmem, ⟨0, _⟩ => ⟨S4096x1024, .f32⟩
  | .local _ .vmem, ⟨1, _⟩ => ⟨S1024x512, .f32⟩
  | .local _ .vmem, ⟨2, _⟩ => ⟨S1024x512, .f32⟩
  | .local _ .vmem, ⟨3, _⟩ => ⟨S4096x1024, .fp8e4m3⟩
  | .local _ .vmem, ⟨4, _⟩ => ⟨S1024x4096, .fp8e4m3⟩
  | .local _ .vmem, ⟨5, _⟩ => ⟨S3x4096x512, .f32⟩
  | .local _ .smem, ⟨0, _⟩ => ⟨S1, .f32⟩
  | .local _ .smem, ⟨1, _⟩ => ⟨S1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev barrier0 : Sem sig := 0

abbrev nD : Nat := 4
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_dev1 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_33 : BitVec 32 := 1#32
  let v55 : BitVec 32 := Scalar.addi v2 c1_i32_33
  let c4_i32_34 : BitVec 32 := 4#32
  let c0_i32_35 : BitVec 32 := 0#32
  let v56 : BitVec 1 := Scalar.cmpi .eq c4_i32_34 c0_i32_35
  let c1_i32_36 : BitVec 32 := 1#32
  let v57 : BitVec 32 := Scalar.select v56 c1_i32_36 c4_i32_34
  let v58 : BitVec 32 := Scalar.remsi v55 v57
  let c0_i32_38 : BitVec 32 := 0#32
  let v60 : BitVec 1 := Scalar.cmpi .slt v58 c0_i32_38
  let c0_i32_39 : BitVec 32 := 0#32
  let v61 : BitVec 1 := Scalar.cmpi .slt v57 c0_i32_39
  let v62 : BitVec 1 := Scalar.xori v60 v61
  let c0_i32_37 : BitVec 32 := 0#32
  let v59 : BitVec 1 := Scalar.cmpi .ne v58 c0_i32_37
  let v63 : BitVec 1 := Scalar.andi v62 v59
  let v64 : BitVec 32 := Scalar.addi v58 v57
  let v65 : BitVec 32 := Scalar.select v63 v64 v58
  let c1_i32_41 : BitVec 32 := 1#32
  let v66 : BitVec 32 := Scalar.muli v65 c1_i32_41
  let v67 : BitVec 32 := Scalar.addi c0_i32_42 v66
  v67.toNat
def k0_dev2 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_43 : BitVec 32 := 2#32
  let v68 : BitVec 32 := Scalar.addi v2 c2_i32_43
  let c4_i32_44 : BitVec 32 := 4#32
  let c0_i32_45 : BitVec 32 := 0#32
  let v69 : BitVec 1 := Scalar.cmpi .eq c4_i32_44 c0_i32_45
  let c1_i32_46 : BitVec 32 := 1#32
  let v70 : BitVec 32 := Scalar.select v69 c1_i32_46 c4_i32_44
  let v71 : BitVec 32 := Scalar.remsi v68 v70
  let c0_i32_48 : BitVec 32 := 0#32
  let v73 : BitVec 1 := Scalar.cmpi .slt v71 c0_i32_48
  let c0_i32_49 : BitVec 32 := 0#32
  let v74 : BitVec 1 := Scalar.cmpi .slt v70 c0_i32_49
  let v75 : BitVec 1 := Scalar.xori v73 v74
  let c0_i32_47 : BitVec 32 := 0#32
  let v72 : BitVec 1 := Scalar.cmpi .ne v71 c0_i32_47
  let v76 : BitVec 1 := Scalar.andi v75 v72
  let v77 : BitVec 32 := Scalar.addi v71 v70
  let v78 : BitVec 32 := Scalar.select v76 v77 v71
  let c1_i32_51 : BitVec 32 := 1#32
  let v79 : BitVec 32 := Scalar.muli v78 c1_i32_51
  let v80 : BitVec 32 := Scalar.addi c0_i32_52 v79
  v80.toNat
def k0_dev3 (d0 : Dev nD) : Nat :=
  let c0_i32_62 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_53 : BitVec 32 := 3#32
  let v81 : BitVec 32 := Scalar.addi v2 c3_i32_53
  let c4_i32_54 : BitVec 32 := 4#32
  let c0_i32_55 : BitVec 32 := 0#32
  let v82 : BitVec 1 := Scalar.cmpi .eq c4_i32_54 c0_i32_55
  let c1_i32_56 : BitVec 32 := 1#32
  let v83 : BitVec 32 := Scalar.select v82 c1_i32_56 c4_i32_54
  let v84 : BitVec 32 := Scalar.remsi v81 v83
  let c0_i32_58 : BitVec 32 := 0#32
  let v86 : BitVec 1 := Scalar.cmpi .slt v84 c0_i32_58
  let c0_i32_59 : BitVec 32 := 0#32
  let v87 : BitVec 1 := Scalar.cmpi .slt v83 c0_i32_59
  let v88 : BitVec 1 := Scalar.xori v86 v87
  let c0_i32_57 : BitVec 32 := 0#32
  let v85 : BitVec 1 := Scalar.cmpi .ne v84 c0_i32_57
  let v89 : BitVec 1 := Scalar.andi v88 v85
  let v90 : BitVec 32 := Scalar.addi v84 v83
  let v91 : BitVec 32 := Scalar.select v89 v90 v84
  let c1_i32_61 : BitVec 32 := 1#32
  let v92 : BitVec 32 := Scalar.muli v91 c1_i32_61
  let v93 : BitVec 32 := Scalar.addi c0_i32_62 v92
  v93.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_68 : BitVec 32 := 1024#32
  let v100 : BitVec 32 := Scalar.muli v2 c1024_i32_68
  let v101 : Index := Scalar.indexCast v100
  let c0_69 : Index := 0#32
  ![v101.toNat, 0]
def k0_off2 (d0 : Dev nD) : Fin 2 → Nat :=
  let c0_71 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_70 : BitVec 32 := 1024#32
  let v103 : BitVec 32 := Scalar.muli v2 c1024_i32_70
  let v104 : Index := Scalar.indexCast v103
  ![0, v104.toNat]
def k0_off3 (d0 : Dev nD) : Fin 2 → Nat :=
  let c0_i32_85 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_80 : BitVec 32 := 1024#32
  let v120 : BitVec 32 := Scalar.muli v2 c1024_i32_80
  ![0, v120.toNat]
def k0_off4 (d0 : Dev nD) (c1_i32_72 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v108 : BitVec 32 := Scalar.addi v2 c1_i32_72
  let c4_i32_73 : BitVec 32 := 4#32
  let c0_i32_74 : BitVec 32 := 0#32
  let v109 : BitVec 1 := Scalar.cmpi .eq c4_i32_73 c0_i32_74
  let c1_i32_75 : BitVec 32 := 1#32
  let v110 : BitVec 32 := Scalar.select v109 c1_i32_75 c4_i32_73
  let v111 : BitVec 32 := Scalar.remsi v108 v110
  let c0_i32_77 : BitVec 32 := 0#32
  let v113 : BitVec 1 := Scalar.cmpi .slt v111 c0_i32_77
  let c0_i32_78 : BitVec 32 := 0#32
  let v114 : BitVec 1 := Scalar.cmpi .slt v110 c0_i32_78
  let v115 : BitVec 1 := Scalar.xori v113 v114
  let c0_i32_76 : BitVec 32 := 0#32
  let v112 : BitVec 1 := Scalar.cmpi .ne v111 c0_i32_76
  let v116 : BitVec 1 := Scalar.andi v115 v112
  let v117 : BitVec 32 := Scalar.addi v111 v110
  let v118 : BitVec 32 := Scalar.select v116 v117 v111
  let c1024_i32_79 : BitVec 32 := 1024#32
  let v119 : BitVec 32 := Scalar.muli v118 c1024_i32_79
  let c0_i32_86 : BitVec 32 := 0#32
  ![v119.toNat, 0]
def k0_dev4 (d0 : Dev nD) : Nat :=
  let c0_i32_84 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_72 : BitVec 32 := 1#32
  let v108 : BitVec 32 := Scalar.addi v2 c1_i32_72
  let c4_i32_73 : BitVec 32 := 4#32
  let c0_i32_74 : BitVec 32 := 0#32
  let v109 : BitVec 1 := Scalar.cmpi .eq c4_i32_73 c0_i32_74
  let c1_i32_75 : BitVec 32 := 1#32
  let v110 : BitVec 32 := Scalar.select v109 c1_i32_75 c4_i32_73
  let v111 : BitVec 32 := Scalar.remsi v108 v110
  let c0_i32_77 : BitVec 32 := 0#32
  let v113 : BitVec 1 := Scalar.cmpi .slt v111 c0_i32_77
  let c0_i32_78 : BitVec 32 := 0#32
  let v114 : BitVec 1 := Scalar.cmpi .slt v110 c0_i32_78
  let v115 : BitVec 1 := Scalar.xori v113 v114
  let c0_i32_76 : BitVec 32 := 0#32
  let v112 : BitVec 1 := Scalar.cmpi .ne v111 c0_i32_76
  let v116 : BitVec 1 := Scalar.andi v115 v112
  let v117 : BitVec 32 := Scalar.addi v111 v110
  let v118 : BitVec 32 := Scalar.select v116 v117 v111
  let c1_i32_83 : BitVec 32 := 1#32
  let v121 : BitVec 32 := Scalar.muli v118 c1_i32_83
  let v122 : BitVec 32 := Scalar.addi c0_i32_84 v121
  v122.toNat
def k0_dev5 (d0 : Dev nD) : Nat :=
  let c0_i32_99 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_87 : BitVec 32 := 2#32
  let v129 : BitVec 32 := Scalar.addi v2 c2_i32_87
  let c4_i32_88 : BitVec 32 := 4#32
  let c0_i32_89 : BitVec 32 := 0#32
  let v130 : BitVec 1 := Scalar.cmpi .eq c4_i32_88 c0_i32_89
  let c1_i32_90 : BitVec 32 := 1#32
  let v131 : BitVec 32 := Scalar.select v130 c1_i32_90 c4_i32_88
  let v132 : BitVec 32 := Scalar.remsi v129 v131
  let c0_i32_92 : BitVec 32 := 0#32
  let v134 : BitVec 1 := Scalar.cmpi .slt v132 c0_i32_92
  let c0_i32_93 : BitVec 32 := 0#32
  let v135 : BitVec 1 := Scalar.cmpi .slt v131 c0_i32_93
  let v136 : BitVec 1 := Scalar.xori v134 v135
  let c0_i32_91 : BitVec 32 := 0#32
  let v133 : BitVec 1 := Scalar.cmpi .ne v132 c0_i32_91
  let v137 : BitVec 1 := Scalar.andi v136 v133
  let v138 : BitVec 32 := Scalar.addi v132 v131
  let v139 : BitVec 32 := Scalar.select v137 v138 v132
  let c1_i32_98 : BitVec 32 := 1#32
  let v142 : BitVec 32 := Scalar.muli v139 c1_i32_98
  let v143 : BitVec 32 := Scalar.addi c0_i32_99 v142
  v143.toNat
def k0_dev6 (d0 : Dev nD) : Nat :=
  let c0_i32_114 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_102 : BitVec 32 := 3#32
  let v150 : BitVec 32 := Scalar.addi v2 c3_i32_102
  let c4_i32_103 : BitVec 32 := 4#32
  let c0_i32_104 : BitVec 32 := 0#32
  let v151 : BitVec 1 := Scalar.cmpi .eq c4_i32_103 c0_i32_104
  let c1_i32_105 : BitVec 32 := 1#32
  let v152 : BitVec 32 := Scalar.select v151 c1_i32_105 c4_i32_103
  let v153 : BitVec 32 := Scalar.remsi v150 v152
  let c0_i32_107 : BitVec 32 := 0#32
  let v155 : BitVec 1 := Scalar.cmpi .slt v153 c0_i32_107
  let c0_i32_108 : BitVec 32 := 0#32
  let v156 : BitVec 1 := Scalar.cmpi .slt v152 c0_i32_108
  let v157 : BitVec 1 := Scalar.xori v155 v156
  let c0_i32_106 : BitVec 32 := 0#32
  let v154 : BitVec 1 := Scalar.cmpi .ne v153 c0_i32_106
  let v158 : BitVec 1 := Scalar.andi v157 v154
  let v159 : BitVec 32 := Scalar.addi v153 v152
  let v160 : BitVec 32 := Scalar.select v158 v159 v153
  let c1_i32_113 : BitVec 32 := 1#32
  let v163 : BitVec 32 := Scalar.muli v160 c1_i32_113
  let v164 : BitVec 32 := Scalar.addi c0_i32_114 v163
  v164.toNat
def k0_off5 (i : grid0.Coords) : Fin 1 → Nat :=
  let arg0 : BitVec 32 := BitVec.ofNat 32 (i 0).val
  let c3_i32 : BitVec 32 := 3#32
  let v6 : BitVec 32 := Scalar.remsi arg0 c3_i32
  ![v6.toNat]
def k0_off6 (i : grid0.Coords) : Fin 3 → Nat :=
  let arg0 : BitVec 32 := BitVec.ofNat 32 (i 0).val
  let c3_i32 : BitVec 32 := 3#32
  let v6 : BitVec 32 := Scalar.remsi arg0 c3_i32
  let c0_i32_1 : BitVec 32 := 0#32
  let c0_i32_2 : BitVec 32 := 0#32
  ![v6.toNat, 0, 0]
def k0_off7 (i : grid0.Coords) : Fin 2 → Nat :=
  let c0_i32_3 : BitVec 32 := 0#32
  let arg0 : BitVec 32 := BitVec.ofNat 32 (i 0).val
  let c512_i32 : BitVec 32 := 512#32
  let v7 : BitVec 32 := Scalar.muli arg0 c512_i32
  ![0, v7.toNat]
def k0_off8 (i : grid0.Coords) : Fin 3 → Nat :=
  let arg0 : BitVec 32 := BitVec.ofNat 32 (i 0).val
  let c3_i32 : BitVec 32 := 3#32
  let v6 : BitVec 32 := Scalar.remsi arg0 c3_i32
  let v13 : Index := Scalar.indexCast v6
  let c0 : Index := 0#32
  let c0_4 : Index := 0#32
  ![v13.toNat, 0, 0]
def k0_cond2 (i : grid0.Coords) : BitVec 1 :=
  let arg0 : BitVec 32 := BitVec.ofNat 32 (i 0).val
  let c3_i32_15 : BitVec 32 := 3#32
  let v35 : BitVec 32 := Scalar.addi arg0 c3_i32_15
  let c16_i32 : BitVec 32 := 16#32
  let v36 : BitVec 1 := Scalar.cmpi .slt v35 c16_i32
  let v37 : BitVec 32 := Scalar.extui v36
  let c0_i32_16 : BitVec 32 := 0#32
  let v38 : BitVec 1 := Scalar.cmpi .ne v37 c0_i32_16
  v38

def k0_off9 (i : grid0.Coords) : Fin 1 → Nat :=
  let arg0 : BitVec 32 := BitVec.ofNat 32 (i 0).val
  let c3_i32 : BitVec 32 := 3#32
  let v6 : BitVec 32 := Scalar.remsi arg0 c3_i32
  ![v6.toNat]
def k0_off10 (i : grid0.Coords) : Fin 3 → Nat :=
  let arg0 : BitVec 32 := BitVec.ofNat 32 (i 0).val
  let c3_i32 : BitVec 32 := 3#32
  let v6 : BitVec 32 := Scalar.remsi arg0 c3_i32
  let c0_i32_19 : BitVec 32 := 0#32
  let c0_i32_20 : BitVec 32 := 0#32
  ![v6.toNat, 0, 0]
def k0_off11 (i : grid0.Coords) : Fin 2 → Nat :=
  let c0_i32_21 : BitVec 32 := 0#32
  let arg0 : BitVec 32 := BitVec.ofNat 32 (i 0).val
  let c3_i32_17 : BitVec 32 := 3#32
  let v39 : BitVec 32 := Scalar.addi arg0 c3_i32_17
  let c512_i32_18 : BitVec 32 := 512#32
  let v40 : BitVec 32 := Scalar.muli v39 c512_i32_18
  ![0, v40.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Proof.Cells.lean ====
/-
The cells of the exchange, what each buffer block holds, and the schedule of the handshake.

Four devices. Each holds a column block of `x` (4096 × 1024), casts it into its send buffer, and sends row block `d` of it
to device `d`'s column block in that device's receive buffer (1024 × 4096); its own block it copies itself. Before any copy
each device signals the three others' barrier semaphore, and waits for three units on its own: a unit from device `p` on
device `c`'s barrier hands `c` the block of `p`'s receive buffer that `c` is to write.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic
public import Idealize.ShloMosaic.Lib.ValueIdx

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The resource algebra: the pipeline's rounds, the exchange's rounds (duties `Fin 3`), the copy counters -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

instance er_landsIn : (ER : Emb UB 𝕄).LandsIn (upEmb : UEmb _ 𝕄) := by unfold ER embR; infer_instance

variable (m : (ℓ : Loc nD τ sig) → Buf (Elt F) ℓ)

/-! ## The devices -/

set_option backward.proofsInPublic true in
/-- The device `k + 1` places after `c`: where `c`'s signal and transfer number `k` go. -/
def nx (c : Dev nD) (k : Fin 3) : Dev nD := ⟨(c.val + k.val + 1) % 4, Nat.mod_lt _ (by decide)⟩
set_option backward.proofsInPublic true in
/-- The device `k + 1` places before `c`: whose signal and transfer number `k` come to `c`. -/
def fr (c : Dev nD) (k : Fin 3) : Dev nD := ⟨(c.val + 3 - k.val) % 4, Nat.mod_lt _ (by decide)⟩

theorem fr_nx (c : Dev nD) (k : Fin 3) : fr (nx c k) k = c := by revert c k; decide
theorem nx_fr (c : Dev nD) (k : Fin 3) : nx (fr c k) k = c := by revert c k; decide
theorem fr_rev (c : Dev nD) (k : Fin 3) : fr c k.rev = nx c k := by revert c k; decide
theorem univ_nx (c : Dev nD) : (Finset.univ : Finset (Dev nD)) = ([c, nx c 0, nx c 1, nx c 2] : List (Dev nD)).toFinset := by revert c; decide
theorem nodup_nx (c : Dev nD) : ([c, nx c 0, nx c 1, nx c 2] : List (Dev nD)).Nodup := by revert c; decide
theorem univ_fr (c : Dev nD) : (Finset.univ : Finset (Dev nD)) = ([c, fr c 0, fr c 1, fr c 2] : List (Dev nD)).toFinset := by revert c; decide
theorem nodup_fr (c : Dev nD) : ([c, fr c 0, fr c 1, fr c 2] : List (Dev nD)).Nodup := by revert c; decide

/-- `nx · k` as a permutation of the devices. -/
def ring (k : Fin 3) : Dev nD ≃ Dev nD := ⟨(nx · k), (fr · k), fun c => fr_nx c k, fun c => nx_fr c k⟩

/-! ## The semaphores -/

/-- The runtime's barrier semaphore; the send, receive and `w` DMA semaphores. -/
abbrev barS : Sem sig := (SemArray.scalar (sig.barrier 0 rfl) : Sems sig S_).sem
set_option backward.proofsInPublic true in
def sendQ (k : Fin 3) : DmaSem sig := ⟨5 + k.val, by have := k.isLt; show 5 + k.val < 14; omega⟩
set_option backward.proofsInPublic true in
def recvQ (k : Fin 3) : DmaSem sig := ⟨8 + k.val, by have := k.isLt; show 8 + k.val < 14; omega⟩
set_option backward.proofsInPublic true in
def wQ (k : Fin 3) : DmaSem sig := ⟨11 + k.val, by have := k.isLt; show 11 + k.val < 14; omega⟩

abbrev barCell (c : Dev nD) : GSem nD τ sig := ((c : Thread nD τ), .reg barS)
abbrev sendCell (c : Dev nD) (k : Fin 3) : GSem nD τ sig := ((c : Thread nD τ), .dma (sendQ k))
abbrev recvCell (c : Dev nD) (k : Fin 3) : GSem nD τ sig := ((c : Thread nD τ), .dma (recvQ k))

/-- What a semaphore is for in the exchange. -/
inductive Role | bar | send (k : Fin 3) | recv (k : Fin 3) | other
deriving DecidableEq

def role : SemLoc sig → Role
  | .reg s => if s = barS then .bar else .other
  | .dma q => if q = sendQ 0 then .send 0 else if q = sendQ 1 then .send 1 else if q = sendQ 2 then .send 2
      else if q = recvQ 0 then .recv 0 else if q = recvQ 1 then .recv 1 else if q = recvQ 2 then .recv 2 else .other

theorem role_bar : role (.reg barS) = .bar := by decide
theorem role_send (k : Fin 3) : role (.dma (sendQ k)) = .send k := by revert k; decide
theorem role_recv (k : Fin 3) : role (.dma (recvQ k)) = .recv k := by revert k; decide

/-! ## The buffers and their blocks -/

abbrev xsM : Memref sig .tc .vmem S4096x1024 .fp8e4m3 := Memref.whole cc0_scratch0
abbrev xfM : Memref sig .tc .vmem S1024x4096 .fp8e4m3 := Memref.whole cc0_scratch1
abbrev wM : Memref sig .tc .vmem S3x4096x512 .f32 := Memref.whole cc0_scratch2
abbrev aM : Memref sig .tc .hbm S4096x8192 .f32 := Memref.whole main_arg1

set_option backward.proofsInPublic true in
/-- Row block `d` of the send buffer (1024 rows of 4096). -/
def rowR (d : Dev nD) : Rect S4096x1024 := Rect.unit (s := S4096x1024) ![1024 * d.val, 0] S1024x1024.size (by revert d; decide)
set_option backward.proofsInPublic true in
/-- Column block `d` of the receive buffer (1024 columns of 4096). -/
def colR (d : Dev nD) : Rect S1024x4096 := Rect.unit (s := S1024x4096) ![0, 1024 * d.val] S1024x1024.size (by revert d; decide)

abbrev rowM (d : Dev nD) : Memref sig .tc .vmem S1024x1024 .fp8e4m3 := xsM.slice (rowR d) (fun _ => rfl)
abbrev colM (d : Dev nD) : Memref sig .tc .vmem S1024x1024 .fp8e4m3 := xfM.slice (colR d) (fun _ => rfl)

/-- The credit of one transfer of the exchange. -/
def N : ℕ := (colM 0).view.dmaCredit
theorem N_pos : 0 < N := View.dmaCredit_pos _ (by decide)
theorem col_credit (d : Dev nD) : (colM d).view.dmaCredit = N := rfl

/-- Row block `d` of device `c`'s send buffer, holding what `f` has there. -/
def rowPts (c d : Dev nD) (f : Buf (Elt F) ((c : Thread nD τ).loc cc0_scratch0)) : sProp 𝕄 :=
  (c : Thread nD τ).loc cc0_scratch0 ↦[(rowM d).view.set]{fullShare} f
/-- Column block `d` of device `c`'s receive buffer, holding what `f` has there. -/
def colPts (c d : Dev nD) (f : Buf (Elt F) ((c : Thread nD τ).loc cc0_scratch1)) : sProp 𝕄 :=
  (c : Thread nD τ).loc cc0_scratch1 ↦[(colM d).view.set]{fullShare} f

instance rowPts_storable (c d : Dev nD) (f) : BI.Storable (upEmb : UEmb _ 𝕄) (rowPts (F := F) c d f) := by unfold rowPts; infer_instance
instance colPts_storable (c d : Dev nD) (f) : BI.Storable (upEmb : UEmb _ 𝕄) (colPts (F := F) c d f) := by unfold colPts; infer_instance

/-- Column block `d` of device `c`'s receive buffer, holding anything. -/
def colAny (c d : Dev nD) : sProp 𝕄 := iprop(∃ f, colPts c d f)

instance colAny_storable (c d : Dev nD) : BI.Storable (upEmb : UEmb _ 𝕄) (colAny (F := F) c d) := by unfold colAny; infer_instance

/-! ## Contents -/

set_option backward.proofsInPublic true in
def pt0 : Fin cfg0.N := ⟨0, by decide⟩

/-- Device `c`'s block of `x` as staged. -/
def xin (c : Dev nD) : Vec F S4096x1024 .f32 := iblk m c 0 pt0
/-- Device `c`'s send buffer: its block of `x` cast. -/
def xs (c : Dev nD) : Vec F S4096x1024 .fp8e4m3 := k0_pay2 (k0_pay1 (xin m c))
set_option backward.proofsInPublic true in
/-- Device `c`'s receive buffer when full: column block `p` is row block `c` of device `p`'s send buffer. -/
def gath (c : Dev nD) : Vec F S1024x4096 .fp8e4m3 := fun j =>
  xs m ⟨(j 1).val / 1024, by have := idx2_lt1 j; show _ < 4; omega⟩
    (ix2 ⟨1024 * c.val + (j 0).val, by have := idx2_lt0 j; have := c.isLt; show _ < 4096; have : c.val < 4 := c.isLt; omega⟩
      ⟨(j 1).val % 1024, Nat.mod_lt _ (by decide)⟩)

/-! ## The schedule -/

/-- Duty `k` of `c`'s barrier: paid by `fr c k`, with its own column block `c`. -/
def barPay (c : Dev nD) (k : Fin 3) : sProp 𝕄 := colAny (fr c k) c
/-- `c`'s receive cell `k`: column block `fr c k` landed. -/
def recvPay (c : Dev nD) (k : Fin 3) : sProp 𝕄 := colPts c (fr c k) (gath m c)
/-- `c`'s send cell `k`: the row block sent comes back. -/
def sendPay (c : Dev nD) (k : Fin 3) : sProp 𝕄 := rowPts c (nx c k) (xs m c)

/-- One round, round 0: a barrier has three duties of one unit, a send or receive cell one of a block's credit. -/
def sched : Rounds.Schedule (GSem nD τ sig) (Fin 3) 𝕄 where
  duties g r := if r = 0 ∧ g.1.2 = .tc then
    (match role g.2 with | .bar => Finset.univ | .send _ => {0} | .recv _ => {0} | .other => ∅) else ∅
  unitless _ := False
  amount g _ _ := match role g.2 with | .bar => 1 | _ => N
  payload g _ d := match role g.2 with
    | .bar => barPay g.1.1 d
    | .send k => sendPay m g.1.1 k
    | .recv k => recvPay m g.1.1 k
    | .other => iprop(emp)
  amount_pos g _ _ _ := by
    cases role g.2 <;> first | exact Nat.one_pos | exact N_pos

instance sched_payload_storable (g : GSem nD τ sig) (r : ℕ) (d : Fin 3) :
    BI.Storable (upEmb : UEmb _ 𝕄) ((sched (F := F) m).payload g r d) := by
  show BI.Storable upEmb (match role g.2 with
    | .bar => barPay g.1.1 d | .send k => sendPay m g.1.1 k | .recv k => recvPay m g.1.1 k | .other => iprop(emp))
  unfold barPay sendPay recvPay
  split <;> infer_instance

section Tables
variable (c : Dev nD) (k : Fin 3)

theorem duties_bar : (sched (F := F) m).duties (barCell c) 0 = Finset.univ := by
  dsimp only [sched]; rw [if_pos ⟨rfl, rfl⟩, role_bar]
theorem duties_send : (sched (F := F) m).duties (sendCell c k) 0 = {0} := by
  dsimp only [sched]; rw [if_pos ⟨rfl, rfl⟩, role_send]
theorem duties_recv : (sched (F := F) m).duties (recvCell c k) 0 = {0} := by
  dsimp only [sched]; rw [if_pos ⟨rfl, rfl⟩, role_recv]
theorem duties_later (g : GSem nD τ sig) : ∀ r, 1 ≤ r → (sched (F := F) m).duties g r = ∅ :=
  fun r hr => by dsimp only [sched]; rw [if_neg fun h => by omega]

theorem amount_bar (d : Fin 3) : (sched (F := F) m).amount (barCell c) 0 d = 1 := by dsimp only [sched]; rw [role_bar]
theorem amount_send (d : Fin 3) : (sched (F := F) m).amount (sendCell c k) 0 d = N := by dsimp only [sched]; rw [role_send]
theorem amount_recv (d : Fin 3) : (sched (F := F) m).amount (recvCell c k) 0 d = N := by dsimp only [sched]; rw [role_recv]

theorem expect_bar : (sched (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (sched (F := F) m).expect (sendCell c k) 0 = N := by
  unfold Schedule.expect Schedule.amountOf; rw [duties_send, Finset.sum_singleton, amount_send]
theorem expect_recv : (sched (F := F) m).expect (recvCell c k) 0 = N := by
  unfold Schedule.expect Schedule.amountOf; rw [duties_recv, Finset.sum_singleton, amount_recv]

theorem payload_bar (d : Fin 3) : (sched (F := F) m).payload (barCell c) 0 d = barPay c d := by dsimp only [sched]; rw [role_bar]
theorem payload_send (d : Fin 3) : (sched (F := F) m).payload (sendCell c k) 0 d = sendPay m c k := by dsimp only [sched]; rw [role_send]
theorem payload_recv (d : Fin 3) : (sched (F := F) m).payload (recvCell c k) 0 d = recvPay m c k := by dsimp only [sched]; rw [role_recv]

/-- All of the barrier's round: the blocks of the three other devices' receive buffers that `c` writes. -/
theorem rest_bar : bigSep ((sched (F := F) m).duties (barCell c) 0 \ ∅) (fun d => (sched (F := F) m).payload (barCell c) 0 d)
    = iprop(colAny (F := F) (nx c 0) c ∗ colAny (nx c 1) c ∗ colAny (nx c 2) c) := by
  rw [Finset.sdiff_empty, duties_bar, bigSep_univ_eq_bigSepL [Fin.rev 0, Fin.rev 1, Fin.rev 2] (by decide) (by decide)]
  simp only [bigSepL_cons_cons, bigSepL_singleton, payload_bar, barPay, fr_rev]
  rfl
theorem rest_send : bigSep ((sched (F := F) m).duties (sendCell c k) 0 \ ∅) (fun d => (sched (F := F) m).payload (sendCell c k) 0 d) = sendPay m c k := by
  rw [Finset.sdiff_empty, duties_send, bigSep_singleton, payload_send]
theorem rest_recv : bigSep ((sched (F := F) m).duties (recvCell c k) 0 \ ∅) (fun d => (sched (F := F) m).payload (recvCell c k) 0 d) = recvPay m c k := by
  rw [Finset.sdiff_empty, duties_recv, bigSep_singleton, payload_recv]

end Tables

/-! ## What each device owes at launch; the levels -/

/-- What device `c` owes the other devices' receive cells, the first transfer the last summand. -/
def OR (c : Dev nD) : CellTallies nD τ sig Unit :=
  0 + tallyAt (recvCell (nx c 2) 2) () N + tallyAt (recvCell (nx c 1) 1) () N + tallyAt (recvCell (nx c 0) 0) () N
/-- That, and a unit on each of their barriers, the first signal the last summand. -/
def O₀ (c : Dev nD) : CellTallies nD τ sig Unit :=
  OR c + tallyAt (barCell (nx c 2)) () 1 + tallyAt (barCell (nx c 1)) () 1 + tallyAt (barCell (nx c 0)) () 1

def L (g : GSem nD τ sig) : Finset Unit := if g.1.2 = .tc then {()} else ∅
/-- Barriers at 1, receive cells at 2, all others at 0. -/
def lv (g : GSem nD τ sig) (_ : Unit) : ℕ := match role g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [role_bar]
theorem lv_recv (c : Dev nD) (k : Fin 3) (u : Unit) : lv (recvCell c k) u = 2 := by unfold lv; rw [role_recv]

/-- What a device owes the receive cells is owed at receive cells of TensorCores. -/
theorem OR_pos {c : Dev nD} {g : GSem nD τ sig} {u : Unit} (h : 0 < OR c g u) : ∃ d k, g = recvCell d k := by
  by_contra hn
  have hz : ∀ d k, tallyAt (recvCell d k) () N g u = 0 := fun d k => by
    rw [tallyAt_apply, if_neg (fun h' => hn ⟨d, k, h'.1⟩)]
  unfold OR at h
  simp only [Pi.add_apply, Finsupp.add_apply, hz, Pi.zero_apply, Finsupp.zero_apply] at h
  exact absurd h (by decide)
theorem O₀_pos {c : Dev nD} {g : GSem nD τ sig} {u : Unit} (h : 0 < O₀ c g u) : (∃ d k, g = recvCell d k) ∨ ∃ d, g = barCell d := by
  by_contra hn
  rw [not_or] at hn
  have hz : ∀ d, tallyAt (barCell d) () 1 g u = 0 := fun d => by
    rw [tallyAt_apply, if_neg (fun h' => hn.2 ⟨d, h'.1⟩)]
  unfold O₀ at h
  simp only [Pi.add_apply, Finsupp.add_apply, hz, Nat.add_zero] at h
  exact hn.1 (OR_pos h)

/-- A wait on a cell that is neither a barrier nor a receive cell, owing what is owed at launch. -/
theorem mayWait_low (c : Dev nD) (sm : SemLoc sig) (hsm : lv ((c : Thread nD τ), sm) () = 0) :
    (levAts L lv : sProp 𝕄) ⊢ MayWait (c : Thread nD τ) sm () (O₀ c) :=
  MayOwe.of_cut (L := L) (lev := lv) 0 (fun p hp => by rw [Finset.mem_singleton.mp hp, L_tc]; exact Finset.mem_singleton_self _)
    (fun g u hg => by rcases O₀_pos hg with ⟨d, k, rfl⟩ | ⟨d, rfl⟩ <;> exact Finset.mem_singleton_self _)
    (fun p hp => by rw [Finset.mem_singleton.mp hp]; exact le_of_eq hsm)
    (fun g u hg => by
      rcases O₀_pos hg with ⟨d, k, rfl⟩ | ⟨d, rfl⟩
      · rw [lv_recv]; decide
      · rw [lv_bar]; decide)

/-- The wait on the barrier, owing the three receive cells: they lie above it. -/
theorem mayWait_bar (c : Dev nD) : (levAts L lv : sProp 𝕄) ⊢ MayWait (c : Thread nD τ) (.reg barS) () (OR c) :=
  MayOwe.of_cut (L := L) (lev := lv) 1 (fun p hp => by rw [Finset.mem_singleton.mp hp, L_tc]; exact Finset.mem_singleton_self _)
    (fun g u hg => by obtain ⟨d, k, rfl⟩ := OR_pos hg; exact Finset.mem_singleton_self _)
    (fun p hp => by rw [Finset.mem_singleton.mp hp]; exact le_of_eq (lv_bar c ()))
    (fun g u hg => by obtain ⟨d, k, rfl⟩ := OR_pos hg; rw [lv_recv]; decide)

end Cert.Exchange

end
-- ==== Proof.Blocks.lean ====
/-
The buffers cut into blocks, and what a copy between two blocks leaves: row block `d` of device `p`'s send buffer is column
block `p` of device `d`'s full receive buffer, and a block of `w` fills a slot of the ring.
-/
module

public import proofs.«01_k».proof.Proof.Cells
public import Idealize.ShloMosaic.Lib.Ring
public import Idealize.ShloMosaic.Lib.Pipeline.Value
public import Idealize.ShloMosaic.Lib.Pipeline.ValueKit.Geometry
public import Idealize.ShloMosaic.Lib.Exec.Geometry

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Ring (pointsTo_blocks pointsTo_blocks_join_exists)

variable {F : FTy → Type} [FloatOps F]

local notation "𝕄" => MT nD τ sig Unit (Elt F) ℕ UU ℕ

variable (m : (ℓ : Loc nD τ sig) → Buf (Elt F) ℓ)

/-! ## Which elements a block has -/

theorem mem_row (d : Dev nD) (i : S4096x1024.Idx) : i ∈ (rowM d).view.set ↔ (i 0).val / 1024 = d.val := by
  have h0 := idx2_lt0 i
  have h1 := idx2_lt1 i
  have hd : d.val < 4 := d.isLt
  refine (iff_of_eq (congrArg (i ∈ ·) (View.set_slice_whole cc0_scratch0 (rowR d)))).trans (Rect.mem_set_unit.trans ?_)
  refine Fin.forall_fin_two.trans ?_
  show (1024 * d.val ≤ (i 0).val ∧ (i 0).val < 1024 * d.val + 1024) ∧ (0 ≤ (i 1).val ∧ (i 1).val < 0 + 1024) ↔ _
  omega

theorem mem_col (d : Dev nD) (i : S1024x4096.Idx) : i ∈ (colM d).view.set ↔ (i 1).val / 1024 = d.val := by
  have h0 := idx2_lt0 i
  have h1 := idx2_lt1 i
  have hd : d.val < 4 := d.isLt
  refine (iff_of_eq (congrArg (i ∈ ·) (View.set_slice_whole cc0_scratch1 (colR d)))).trans (Rect.mem_set_unit.trans ?_)
  refine Fin.forall_fin_two.trans ?_
  show (0 ≤ (i 0).val ∧ (i 0).val < 0 + 1024) ∧ (1024 * d.val ≤ (i 1).val ∧ (i 1).val < 1024 * d.val + 1024) ↔ _
  omega

/-- A family of sets told apart by a number of the element is pairwise disjoint, and covers when every element has its number. -/
theorem disjoint_of_num {α β : Type} [DecidableEq α] (I : β → Finset α) (g : α → β) (h : ∀ b i, i ∈ I b ↔ g i = b)
    (b b' : β) (hne : b ≠ b') : Disjoint (I b) (I b') :=
  Finset.disjoint_left.mpr fun i hi hi' => hne (((h b i).mp hi).symm.trans ((h b' i).mp hi'))
theorem cover_of_num {α β : Type} [DecidableEq α] [Fintype α] [Fintype β] (I : β → Finset α) (g : α → β) (h : ∀ b i, i ∈ I b ↔ g i = b) :
    Finset.univ.biUnion I = Finset.univ :=
  Finset.eq_univ_iff_forall.mpr fun i => Finset.mem_biUnion.mpr ⟨g i, Finset.mem_univ _, (h _ i).mpr rfl⟩

set_option backward.proofsInPublic true in
def rowNum (i : S4096x1024.Idx) : Dev nD := ⟨(i 0).val / 1024, by have := idx2_lt0 i; show _ < 4; omega⟩
set_option backward.proofsInPublic true in
def colNum (i : S1024x4096.Idx) : Dev nD := ⟨(i 1).val / 1024, by have := idx2_lt1 i; show _ < 4; omega⟩
theorem mem_row' (d : Dev nD) (i : S4096x1024.Idx) : i ∈ (rowM d).view.set ↔ rowNum i = d := (mem_row d i).trans (Fin.ext_iff (a := rowNum i) (b := d)).symm
theorem mem_col' (d : Dev nD) (i : S1024x4096.Idx) : i ∈ (colM d).view.set ↔ colNum i = d := (mem_col d i).trans (Fin.ext_iff (a := colNum i) (b := d)).symm

/-- The send buffer is its four row blocks. -/
theorem rows_eq (c : Dev nD) (f : Buf (Elt F) ((c : Thread nD τ).loc cc0_scratch0)) :
    ((c : Thread nD τ).loc cc0_scratch0 ↦{fullShare} f : sProp 𝕄) = iprop(rowPts c c f ∗ rowPts c (nx c 0) f ∗ rowPts c (nx c 1) f ∗ rowPts c (nx c 2) f) := by
  rw [pointsTo_blocks (ℓ := (c : Thread nD τ).loc cc0_scratch0) (fun d : Dev nD => (rowM d).view.set)
    (disjoint_of_num _ rowNum mem_row') (cover_of_num _ rowNum mem_row'),
    bigSep_univ_eq_bigSepL [c, nx c 0, nx c 1, nx c 2] (univ_nx c) (nodup_nx c)]
  rfl
/-- The receive buffer is its four column blocks: its own, then those of the devices after it; -/
theorem cols_eq (c : Dev nD) (f : Buf (Elt F) ((c : Thread nD τ).loc cc0_scratch1)) :
    ((c : Thread nD τ).loc cc0_scratch1 ↦{fullShare} f : sProp 𝕄) = iprop(colPts c c f ∗ colPts c (nx c 0) f ∗ colPts c (nx c 1) f ∗ colPts c (nx c 2) f) := by
  rw [pointsTo_blocks (ℓ := (c : Thread nD τ).loc cc0_scratch1) (fun d : Dev nD => (colM d).view.set)
    (disjoint_of_num _ colNum mem_col') (cover_of_num _ colNum mem_col'),
    bigSep_univ_eq_bigSepL [c, nx c 0, nx c 1, nx c 2] (univ_nx c) (nodup_nx c)]
  rfl
/-- or those of the devices before it. -/
theorem cols_eq' (c : Dev nD) (f : Buf (Elt F) ((c : Thread nD τ).loc cc0_scratch1)) :
    ((c : Thread nD τ).loc cc0_scratch1 ↦{fullShare} f : sProp 𝕄) = iprop(colPts c c f ∗ colPts c (fr c 0) f ∗ colPts c (fr c 1) f ∗ colPts c (fr c 2) f) := by
  rw [pointsTo_blocks (ℓ := (c : Thread nD τ).loc cc0_scratch1) (fun d : Dev nD => (colM d).view.set)
    (disjoint_of_num _ colNum mem_col') (cover_of_num _ colNum mem_col'),
    bigSep_univ_eq_bigSepL [c, fr c 0, fr c 1, fr c 2] (univ_fr c) (nodup_fr c)]
  rfl

/-! ## What a write leaves -/

/-- Writing through a view what the view reads of `G` leaves `G` on the view's elements. -/
theorem write_on {κ : Kind} {s : Shape} {e : EltTy} {sp : Space} (v : View sig κ sp s e) (Val : EltTy → Type)
    (f G : v.ty.Contents Val) {w : s.Idx → Val e} (hw : w = v.read Val G) : ∀ i ∈ v.set, v.write Val f w Finset.univ i = G i := by
  subst hw
  intro i hi
  rw [View.write_read_eq_piecewise, View.setOn_univ]
  exact Finset.piecewise_eq_of_mem _ _ _ hi

/-! ## The exchanged blocks -/

/-- Row block `d` of `p`'s send buffer is column block `p` of `d`'s receive buffer. -/
theorem row_eq_col (p d : Dev nD) : (rowM d).view.read (Elt F) (xs m p) = (colM p).view.read (Elt F) (gath m d) := by
  funext x
  have h0 := idx2_lt0 x
  have h1 := idx2_lt1 x
  have hp : p.val < 4 := p.isLt
  show xs m p ((rowR d).emb x) = gath m d ((colR p).emb x)
  have e0 : (((colR p).emb x) 0).val = (x 0).val := (ValueKit.rect_emb_unit_val (s := S1024x4096) ![0, 1024 * p.val] _ _ x 0).trans (Nat.zero_add _)
  have e1 : (((colR p).emb x) 1).val = 1024 * p.val + (x 1).val := ValueKit.rect_emb_unit_val (s := S1024x4096) ![0, 1024 * p.val] _ _ x 1
  have r0 : (((rowR d).emb x) 0).val = 1024 * d.val + (x 0).val := ValueKit.rect_emb_unit_val (s := S4096x1024) ![1024 * d.val, 0] _ _ x 0
  have r1 : (((rowR d).emb x) 1).val = (x 1).val := (ValueKit.rect_emb_unit_val (s := S4096x1024) ![1024 * d.val, 0] _ _ x 1).trans (Nat.zero_add _)
  have hq : (⟨(((colR p).emb x) 1).val / 1024, by have := idx2_lt1 ((colR p).emb x); show _ < 4; omega⟩ : Dev nD) = p :=
    Fin.ext (by show (((colR p).emb x) 1).val / 1024 = p.val; rw [e1]; omega)
  unfold gath
  rw [hq]
  refine congrArg (xs m p) (funext fun a => Fin.ext ?_)
  revert a
  refine Fin.forall_fin_two.mpr ⟨?_, ?_⟩
  · show (((rowR d).emb x) 0).val = 1024 * d.val + (((colR p).emb x) 0).val
    rw [r0, e0]
  · show (((rowR d).emb x) 1).val = (((colR p).emb x) 1).val % 1024
    rw [r1, e1]; omega

/-- The landing of `p`'s transfer in `d`. -/
theorem landed (p d : Dev nD) (fd : Buf (Elt F) ((d : Thread nD τ).loc cc0_scratch1)) :
    ((d : Thread nD τ).loc cc0_scratch1 ↦[(colM p).view.set]{fullShare}
      ((colM p).view.write (Elt F) fd ((rowM d).view.read (Elt F) (xs m p)) Finset.univ) : sProp 𝕄) = colPts d p (gath m d) :=
  pointsTo_congr (write_on (colM p).view (Elt F) fd (gath m d) (row_eq_col m p d))

/-! ## The ring of `w` blocks -/

set_option backward.proofsInPublic true in
def slotR (k : Fin 3) : Rect S3x4096x512 := Rect.unit (s := S3x4096x512) ![k.val, 0, 0] S1x4096x512.size (by revert k; decide)
set_option backward.proofsInPublic true in
def blkR (b : Fin 16) : Rect S4096x8192 := Rect.unit (s := S4096x8192) ![0, 512 * b.val] S4096x512.size (by revert b; decide)

/-- Slot `k` of the ring, and block `b` of `w` in main memory. -/
abbrev slotM (k : Fin 3) : Memref sig .tc .vmem S4096x512 .f32 := (wM.slice (slotR k) (fun _ => rfl)).squeeze S4096x512 squeezes_S1x4096x512_S4096x512
abbrev blkM (b : Fin 16) : Memref sig .tc .hbm S4096x512 .f32 := aM.slice (blkR b) (fun _ => rfl)

/-- The credit of one copy of a block of `w`. -/
def NW : ℕ := (slotM 0).view.dmaCredit
theorem NW_pos : 0 < NW := View.dmaCredit_pos _ (by decide)

/-- Block `b` of device `c`'s `w`. -/
def wcol (c : Dev nD) (b : Fin 16) : Vec F S4096x512 .f32 := (blkM b).view.read (Elt F) (V m c main_arg1)
/-- A ring buffer whose every slot holds block `b`. -/
def wfill (c : Dev nD) (b : Fin 16) : Vec F S3x4096x512 .f32 := fun j => wcol m c b (ix2 (j 1) (j 2))
/-- Block `b` as the body loads it from a slot. -/
def wblk (c : Dev nD) (b : Fin 16) : Vec F S1x4096x512 .f32 := fun j => wcol m c b (ix2 (j 1) (j 2))

theorem set_slot (k : Fin 3) : (slotM k).view.set = (wM.access (slotR k)).set := View.set_reshape _ _

theorem mem_slot (k : Fin 3) (i : S3x4096x512.Idx) : i ∈ (slotM k).view.set ↔ i 0 = k := by
  have h1 : (i 1).val < 4096 := (i 1).isLt
  have h2 : (i 2).val < 512 := (i 2).isLt
  refine (iff_of_eq (congrArg (i ∈ ·) ((set_slot k).trans (View.set_slice_whole cc0_scratch2 (slotR k))))).trans (Rect.mem_set_unit.trans ?_)
  refine (Fin.forall_fin_succ.trans (and_congr_right fun _ => Fin.forall_fin_two)).trans ?_
  show (k.val ≤ (i 0).val ∧ (i 0).val < k.val + 1) ∧ (0 ≤ (i 1).val ∧ (i 1).val < 0 + 4096) ∧ (0 ≤ (i 2).val ∧ (i 2).val < 0 + 512) ↔ _
  refine Iff.trans ?_ Fin.ext_iff.symm
  omega

/-- Slot `k` of device `c`'s ring, holding what `f` has there. -/
def slotPts (c : Dev nD) (k : Fin 3) (f : Buf (Elt F) ((c : Thread nD τ).loc cc0_scratch2)) : sProp 𝕄 :=
  (c : Thread nD τ).loc cc0_scratch2 ↦[(slotM k).view.set]{fullShare} f

theorem slots_eq (c : Dev nD) (f : Buf (Elt F) ((c : Thread nD τ).loc cc0_scratch2)) :
    ((c : Thread nD τ).loc cc0_scratch2 ↦{fullShare} f : sProp 𝕄) = bigSep Finset.univ fun k => slotPts c k f :=
  pointsTo_blocks (ℓ := (c : Thread nD τ).loc cc0_scratch2) (fun k : Fin 3 => (slotM k).view.set)
    (disjoint_of_num _ (fun i : S3x4096x512.Idx => i 0) mem_slot) (cover_of_num _ (fun i : S3x4096x512.Idx => i 0) mem_slot) f
/-- Slots holding anything are the ring buffer holding something. -/
theorem slots_join (c : Dev nD) :
    bigSep Finset.univ (fun k => iprop(∃ f, slotPts c k f)) ⊢ (iprop(∃ f : Buf (Elt F) ((c : Thread nD τ).loc cc0_scratch2), (c : Thread nD τ).loc cc0_scratch2 ↦{fullShare} f) : sProp 𝕄) :=
  pointsTo_blocks_join_exists (ℓ := (c : Thread nD τ).loc cc0_scratch2) (fun k : Fin 3 => (slotM k).view.set)
    (disjoint_of_num _ (fun i : S3x4096x512.Idx => i 0) mem_slot) (cover_of_num _ (fun i : S3x4096x512.Idx => i 0) mem_slot) (fun _ => wfillAny)
where wfillAny : Elt F .f32 := (FloatOps.ofBits (F := F) .f32 0)

theorem slot_emb1 (k : Fin 3) (j : S1x4096x512.Idx) : ((slotR k).emb j 1).val = (j 1).val :=
  (ValueKit.rect_emb_unit_val (s := S3x4096x512) ![k.val, 0, 0] _ _ j 1).trans (Nat.zero_add _)
theorem slot_emb2 (k : Fin 3) (j : S1x4096x512.Idx) : ((slotR k).emb j 2).val = (j 2).val :=
  (ValueKit.rect_emb_unit_val (s := S3x4096x512) ![k.val, 0, 0] _ _ j 2).trans (Nat.zero_add _)

/-- The load of a slot holding block `b`. -/
theorem load_slot (c : Dev nD) (k : Fin 3) (b : Fin 16) : wM.view.readAt (Elt F) (slotR k).toLoadRect (wfill m c b) = wblk m c b := by
  funext j
  show wcol m c b (ix2 ((slotR k).emb j 1) ((slotR k).emb j 2)) = wcol m c b (ix2 (j 1) (j 2))
  rw [show (slotR k).emb j 1 = j 1 from Fin.ext (slot_emb1 k j), show (slotR k).emb j 2 = j 2 from Fin.ext (slot_emb2 k j)]

/-- Block `b` is what a slot of the filled ring reads. -/
theorem blk_eq_slot (c : Dev nD) (k : Fin 3) (b : Fin 16) : (blkM b).view.read (Elt F) (V m c main_arg1) = (slotM k).view.read (Elt F) (wfill m c b) := by
  funext j
  refine ((congrFun (Memref.read_squeeze_slice wM (slotR k) (fun _ => rfl) squeezes_S1x4096x512_S4096x512 shapeCasts_S1x4096x512_S4096x512 (wfill m c b)) j).trans ?_).symm
  rw [load_slot]
  refine (shapeCast_dropUnit_apply ![4096, 512] (wblk m c b) shapeCasts_S1x4096x512_S4096x512 j).trans ?_
  exact congrArg (wcol m c b) (eq_ix2 j).symm

/-- The arrival of block `b` in slot `k`. -/
theorem arrived (c : Dev nD) (k : Fin 3) (b : Fin 16) (fd : Buf (Elt F) ((c : Thread nD τ).loc cc0_scratch2)) :
    ((c : Thread nD τ).loc cc0_scratch2 ↦[(slotM k).view.set]{fullShare}
      ((slotM k).view.write (Elt F) fd ((blkM b).view.read (Elt F) (V m c main_arg1)) Finset.univ) : sProp 𝕄) = slotPts c k (wfill m c b) :=
  pointsTo_congr (write_on (slotM k).view (Elt F) fd (wfill m c b) (blk_eq_slot m c k b))

end Cert.Exchange

end
-- ==== Proof.Ring.lean ====
/-
The ring of three slots through which the blocks of `w` pass: a slot is either free or holds the copy of one block in
flight. At the start of point `t` the slots hold the blocks `t`, `t + 1`, `t + 2` (those that exist), block `b` in slot `b % 3`.
-/
module

public import proofs.«01_k».proof.Proof.Blocks
public import Idealize.ShloMosaic.Lib.Transfers

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight shareTok shareDrop)

variable {F : FTy → Type} [FloatOps F]

local notation "𝕄" => MT nD τ sig Unit (Elt F) ℕ UU ℕ

abbrev 𝒱₀ : Variants := Variants.none

variable (m : (ℓ : Loc nD τ sig) → Buf (Elt F) ℓ)

/-- The embedding of the copy counters. -/
abbrev EC : UEmb Counters (MT nD τ sig Unit (Elt F) ℕ UU ℕ) := countersEmb (U := UU)

/-! ## Slots -/

/-- Slot `k`'s share of `w`: the whole array, to read. -/
def aTok (c : Dev nD) (k : Fin 3) : sProp 𝕄 := (c : Thread nD τ).loc main_arg1 ↦{shareTok fullShare 3 k} V m c main_arg1
/-- Of that share, block `b`; -/
def aBlk (c : Dev nD) (k : Fin 3) (b : Fin 16) : sProp 𝕄 :=
  (c : Thread nD τ).loc main_arg1 ↦[(blkM b).view.set]{shareTok fullShare 3 k} V m c main_arg1
/-- and the rest. -/
def aOff (c : Dev nD) (k : Fin 3) (b : Fin 16) : sProp 𝕄 :=
  (c : Thread nD τ).loc main_arg1 ↦[Finset.univ \ (blkM b).view.set]{shareTok fullShare 3 k} V m c main_arg1

theorem aTok_split (c : Dev nD) (k : Fin 3) (b : Fin 16) : (aTok m c k : sProp 𝕄) ⊣⊢ iprop(aBlk m c k b ∗ aOff m c k b) :=
  pointsTo_split_subset (Finset.subset_univ _)

/-- A free slot: its semaphore at zero, its buffer, its share of `w`. -/
def free (c : Dev nD) (k : Fin 3) : sProp 𝕄 :=
  iprop(semVal ((c : Thread nD τ), .dma (wQ k)) 0 ∗ (∃ f, slotPts c k f) ∗ aTok m c k)
/-- A slot with the copy of block `b` in flight into it. -/
def inflight (c : Dev nD) (k : Fin 3) (b : Fin 16) : sProp 𝕄 :=
  iprop(Flight EC (c : Thread nD τ) (.dma (wQ k)) () NW iprop(slotPts c k (wfill m c b) ∗ aBlk m c k b) ∗ aOff m c k b)

/-- The first block from `t` on whose slot is `k`. -/
def blockOf (t : ℕ) (k : Fin 3) : ℕ := t + (k.val + 2 * t) % 3

/-- Slot `k` at the start of point `t`. -/
def slotAt (c : Dev nD) (t : ℕ) (k : Fin 3) : sProp 𝕄 :=
  if h : blockOf t k < 16 then inflight m c k ⟨blockOf t k, h⟩ else free m c k

set_option backward.proofsInPublic true in
/-- The slot block `b` passes through. -/
def slotOf (b : ℕ) : Fin 3 := ⟨b % 3, Nat.mod_lt _ (by decide)⟩

theorem blockOf_self (t : ℕ) : blockOf t (slotOf t) = t := by
  show t + (t % 3 + 2 * t) % 3 = t; omega
theorem blockOf_next (t : ℕ) : blockOf (t + 1) (slotOf t) = t + 3 := by
  show t + 1 + (t % 3 + 2 * (t + 1)) % 3 = t + 3; omega
theorem blockOf_other (t : ℕ) (k : Fin 3) (h : k ≠ slotOf t) : blockOf (t + 1) k = blockOf t k := by
  have h' : k.val ≠ t % 3 := fun e => h (Fin.ext e)
  have hk := k.isLt
  show t + 1 + (k.val + 2 * (t + 1)) % 3 = t + (k.val + 2 * t) % 3; omega

theorem slotAt_inflight (c : Dev nD) (t : ℕ) (k : Fin 3) (b : Fin 16) (h : blockOf t k = b.val) : (slotAt m c t k : sProp 𝕄) = inflight m c k b := by
  have hb : blockOf t k < 16 := h ▸ b.isLt
  unfold slotAt; rw [dif_pos hb]; exact congrArg (inflight m c k) (Fin.ext h)
theorem slotAt_free (c : Dev nD) (t : ℕ) (k : Fin 3) (h : 16 ≤ blockOf t k) : (slotAt m c t k : sProp 𝕄) = free m c k := by
  unfold slotAt; rw [dif_neg (by omega)]
theorem slotAt_other (c : Dev nD) (t : ℕ) (k : Fin 3) (h : k ≠ slotOf t) : (slotAt m c (t + 1) k : sProp 𝕄) = slotAt m c t k := by
  unfold slotAt; simp only [blockOf_other t k h]

/-- The ring at the start of point `t`. -/
def ringAt (c : Dev nD) (t : ℕ) : sProp 𝕄 := bigSep Finset.univ (slotAt m c t)

/-- The slots of the ring but block `t`'s: untouched by point `t`. -/
def others (c : Dev nD) (t : ℕ) : sProp 𝕄 := bigSep (Finset.univ.erase (slotOf t)) (slotAt m c t)

theorem ring_before (c : Dev nD) (t : Fin 16) : (ringAt m c t.val : sProp 𝕄) = iprop(inflight m c (slotOf t.val) t ∗ others m c t.val) := by
  unfold ringAt others
  rw [bigSep_univ_at _ (slotOf t.val), slotAt_inflight m c t.val (slotOf t.val) t (blockOf_self _)]
theorem ring_after (c : Dev nD) (t : ℕ) : (ringAt m c (t + 1) : sProp 𝕄) = iprop(slotAt m c (t + 1) (slotOf t) ∗ others m c t) := by
  unfold ringAt others
  rw [bigSep_univ_at _ (slotOf t)]
  exact congrArg (BI.sep _) (bigSep_congr fun k hk => slotAt_other m c t k (Finset.ne_of_mem_erase hk))
theorem ring_refilled (c : Dev nD) (t : ℕ) (h : t + 3 < 16) : (ringAt m c (t + 1) : sProp 𝕄) = iprop(inflight m c (slotOf t) ⟨t + 3, h⟩ ∗ others m c t) := by
  rw [ring_after, slotAt_inflight m c (t + 1) (slotOf t) ⟨t + 3, h⟩ (blockOf_next t)]
theorem ring_drained (c : Dev nD) (t : ℕ) (h : 16 ≤ t + 3) : (ringAt m c (t + 1) : sProp 𝕄) = iprop(free m c (slotOf t) ∗ others m c t) := by
  rw [ring_after, slotAt_free m c (t + 1) (slotOf t) (by rw [blockOf_next]; exact h)]

theorem ring_start (c : Dev nD) : (ringAt m c 0 : sProp 𝕄) = iprop(inflight m c 0 0 ∗ inflight m c 1 1 ∗ inflight m c 2 2) := by
  unfold ringAt
  rw [bigSep_univ_eq_bigSepL [0, 1, 2] (by decide) (by decide)]
  simp only [bigSepL_cons_cons, bigSepL_singleton]
  rw [slotAt_inflight m c 0 0 0 rfl, slotAt_inflight m c 0 1 1 rfl, slotAt_inflight m c 0 2 2 rfl]
  rfl
theorem ring_end (c : Dev nD) : (ringAt m c 16 : sProp 𝕄) = bigSep Finset.univ (free m c) := by
  unfold ringAt
  exact bigSep_congr fun k _ => slotAt_free m c 16 k (Nat.le_add_right _ _)

/-! ## The two steps -/

theorem slotM_of (k : Fin 3) {off : Fin S3x4096x512.rank → ℕ} (h : off = ![k.val, 0, 0]) (inb : ∀ a, off a + S1x4096x512.size a ≤ S3x4096x512.size a) :
    (wM.slice (Rect.unit (s := S3x4096x512) off S1x4096x512.size inb) (fun _ => rfl)).squeeze S4096x512 squeezes_S1x4096x512_S4096x512 = slotM k := by
  subst h; rfl
theorem blkM_of (b : Fin 16) {off : Fin S4096x8192.rank → ℕ} (h : off = ![0, 512 * b.val]) (inb : ∀ a, off a + S4096x512.size a ≤ S4096x8192.size a) :
    aM.slice (Rect.unit (s := S4096x8192) off S4096x512.size inb) (fun _ => rfl) = blkM b := by
  subst h; rfl
theorem wQ_of (k : Fin 3) {off : Fin S3.rank → ℕ} (h : off = ![k.val]) (inb : ∀ a, off a + S1.size a ≤ S3.size a) :
    ((cc0_scratch5.slice (Rect.unit (s := S3) off S1.size inb)).squeeze S_ squeezes_S1_S_).sem = wQ k := by
  subst h; revert inb; revert k; decide

/-- The copy of block `b` into free slot `k` starts. -/
theorem wp_issue (c : Dev nD) (k : Fin 3) (b : Fin 16) {src : Memref sig .tc .hbm S4096x512 .f32} {dst : Memref sig .tc .vmem S4096x512 .f32} {q : DmaSem sig}
    (hs : src = blkM b) (hd : dst = slotM k) (hq : q = wQ k)
    {hsrc : src.view.WordExact} {hdst : dst.view.WordExact} {hsem : (DmaTarget.here dst : DmaTarget nD τ sig (.tc : Proc τ) .vmem S4096x512 .f32).Typed .hbm (SemLoc.dma q)}
    {α : Type} {k' : PUnit.{1} → Prog (TpuEff nD τ sig (Elt F) Λ₀ .tc) α} {Q : α → sProp 𝕄} :
    free m c k
      ⊢ iprop((inflight m c k b -∗ wp frame (wpE (defs₀ (F := F)) 𝒱₀ (c : Thread nD τ) none) Set.univ (k' ⟨⟩) Q)
          -∗ wp frame (wpE (defs₀ (F := F)) 𝒱₀ (c : Thread nD τ) none) Set.univ (.op (.enqueueDma src (.here dst) (.dma q) hsrc hdst hsem) k') Q) := by
  subst hs hd hq
  unfold free inflight
  iintro ⟨Hv, ⟨%f, Hd⟩, Ha⟩ Hk
  ihave Ha := (aTok_split m c k b).1 $$ Ha
  icases Ha with ⟨Hb, Ho⟩
  unfold slotPts aBlk
  iapply (Transfers.wp_dmaLocal EC 𝒱₀ (c : Thread nD τ) none (fs := V m c main_arg1) (fd := f) () NW rfl NW_pos (Finset.Subset.refl _)) $$ [Hv Hd Hb]
  · isplitl [Hb]; · iexact Hb
    isplitl [Hd]; · iexact Hd
    iexact Hv
  iintro HF
  iapply Hk
  isplitl [HF]
  · iapply (Transfers.Flight_mono EC (c : Thread nD τ) (sep_mono_left (Entails.of_eq (arrived m c k b f)))) $$ HF
  · iexact Ho

/-- The wait for block `b` in slot `k`. -/
theorem wp_land (c : Dev nD) (k : Fin 3) (b : Fin 16) {q : DmaSem sig} (hq : q = wQ k) {sp sp' : Space} {s' s : Shape} {e' e : EltTy} {κ' : Kind}
    {srcw : Memref sig .tc sp' s' e'} {dstw : Memref sig κ' sp s e} (hN : dstw.view.dmaCredit = NW)
    {hsrc : srcw.view.WordExact} {hdst : dstw.view.WordExact} {W : Waits sig Unit}
    {α : Type} {k' : PUnit.{1} → Prog (TpuEff nD τ sig (Elt F) Λ₀ .tc) α} {Q : α → sProp 𝕄} :
    iprop(inflight m c k b ∗ owes (c : Thread nD τ) 0 W)
      ⊢ iprop((iprop(semVal ((c : Thread nD τ), .dma (wQ k)) 0 ∗ slotPts c k (wfill m c b) ∗ aTok m c k ∗ owes (c : Thread nD τ) 0 (insert (SemLoc.dma (wQ k), ()) W))
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 q srcw dstw hsrc hdst) k') Q) := by
  subst hq
  unfold inflight
  iintro ⟨⟨HF, Ho⟩, HO⟩ Hk
  iapply (Transfers.wp_waitLocal EC 𝒱₀ (c : Thread nD τ) none () hN) $$ [HF HO]
  · isplitl [HF] <;> iassumption
  iintro ⟨⟨Hs, Hb⟩, Hv, HO⟩
  iapply Hk
  isplitl [Hv]; · iexact Hv
  isplitl [Hs]; · iexact Hs
  isplitl [Hb Ho]
  · iapply (aTok_split m c k b).2
    isplitl [Hb] <;> iassumption
  iexact HO

end Cert.Exchange

end
-- ==== Proof.Steps.lean ====
/-
The steps of the exchange: a signal, the wait on the barrier, a transfer, the waits on its two cells, the closing of a cell —
each once, for every device and every `k`.
-/
module

public import proofs.«01_k».proof.Proof.Ring

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells of a device -/

/-- A device's cells: the barrier, three send cells (`false`), three receive cells (`true`). -/
abbrev Ci := Option (Bool × Fin 3)
abbrev csem : Ci → SemLoc sig
  | none => .reg barS
  | some (false, k) => .dma (sendQ k)
  | some (true, k) => .dma (recvQ k)
abbrev kcell (p : Dev nD × Ci) : GSem nD τ sig := ((p.1 : Thread nD τ), csem p.2)

variable (K : Dev nD × Ci → ℕ)

/-- Every cell's invariant, and that it has reached round 0. -/
def records : sProp 𝕄 :=
  iprop((bigSep Finset.univ fun p : Dev nD × Ci => cellInv ER (sched m) (K p) (kcell p))
    ∗ bigSep Finset.univ fun p : Dev nD × Ci => reached ER (kcell p) 0)

instance records_persistent : BI.Persistent (records (F := F) m K) := by unfold records; infer_instance

theorem inv_at (p : Dev nD × Ci) : (records m K : sProp 𝕄) ⊢ cellInv ER (sched m) (K p) (kcell p) := by
  unfold records; iintro ⟨H, -⟩
  have h : (bigSep Finset.univ fun p : Dev nD × Ci => (cellInv ER (sched m) (K p) (kcell p) : sProp 𝕄)) ⊢ cellInv ER (sched m) (K p) (kcell p) :=
    bigSep_elim (Finset.mem_univ p)
  iapply h $$ H
theorem reached_at (p : Dev nD × Ci) : (records m K : sProp 𝕄) ⊢ reached ER (kcell p) 0 := by
  unfold records; iintro ⟨-, H⟩
  have h : (bigSep Finset.univ fun p : Dev nD × Ci => (reached ER (kcell p) 0 : sProp 𝕄)) ⊢ reached ER (kcell p) 0 := bigSep_elim (Finset.mem_univ p)
  iapply h $$ H

/-- What a device owes, whatever it has waited for. -/
def owesE (c : Dev nD) (O : CellTallies nD τ sig Unit) : sProp 𝕄 := iprop(∃ W, owes (c : Thread nD τ) O W)

/-! ## The steps -/

/-- Signal `k`, to the barrier of the device `k + 1` places on, handing over the column block that device will write. -/
theorem wp_sig (c n : Dev nD) (k : Fin 3) (hn : n = nx c k) {s : Sem sig} (hs : s = barS) (O : CellTallies nD τ sig Unit)
    {α : Type} {k' : PUnit.{1} → Prog (TpuEff nD τ sig (Elt F) Λ₀ .tc) α} {Q : α → sProp 𝕄} :
    iprop(records m K ∗ owesE c (O + tallyAt (barCell (nx c k)) () 1) ∗ dutyTok ER (barCell (nx c k)) 0 k ∗ colAny c (nx c k))
      ⊢ iprop((owesE c O -∗ wp frame (wpE (defs₀ (F := F)) 𝒱₀ (c : Thread nD τ) none) Set.univ (k' ⟨⟩) Q)
          -∗ wp frame (wpE (defs₀ (F := F)) 𝒱₀ (c : Thread nD τ) none) Set.univ (.op (.semSignal (n, .tc) s (1#32 : BitVec 32).toInt) k') Q) := by
  subst hn hs
  unfold owesE
  iintro ⟨#HR, ⟨%W, HO⟩, Ht, Hc⟩ Hk
  ihave HI := (inv_at m K (nx c k, none)) $$ HR
  ihave Hr := (reached_at m K (nx c k, none)) $$ HR
  iapply (Rounds.wp_signal 𝒱₀ ER (sched m) (c : Thread nD τ) none (dst := (nx c k : Thread nD τ)) (κ := K (nx c k, none))
      (d := k) (by rw [duties_bar]; exact Finset.mem_univ _) ((amount_bar m (nx c k) k).trans (by decide)) () O rfl) $$ [HI HO Ht Hc Hr]
  · isplitl [HI]; · iexact HI
    isplitl [HO]; · iexact HO
    isplitl [Ht]; · iexact Ht
    isplitl [Hc]
    · rw [payload_bar]; unfold barPay; rw [fr_nx]; iexact Hc
    iexact Hr
  iintro HO
  iapply Hk
  iexists W; iexact HO

/-- The wait on the barrier: the blocks of the other devices' receive buffers that `c` writes. -/
theorem wp_bar (c : Dev nD) {s : Sem sig} (hs : s = barS)
    {α : Type} {k' : PUnit.{1} → Prog (TpuEff nD τ sig (Elt F) Λ₀ .tc) α} {Q : α → sProp 𝕄} :
    iprop(records m K ∗ cred (tallyAt (barCell c) () 3) ∗ owesE c (OR c) ∗ levAts L lv ∗ atPos ER (barCell c) 0 ∅ 0)
      ⊢ iprop((iprop(owesE c (OR c) ∗ atPos ER (barCell c) (0 + 1) ∅ 0 ∗ colAny (nx c 0) c ∗ colAny (nx c 1) c ∗ colAny (nx c 2) c)
            -∗ wp frame (wpE (defs₀ (F := F)) 𝒱₀ (c : Thread nD τ) none) Set.univ (k' ⟨⟩) Q)
          -∗ wp frame (wpE (defs₀ (F := F)) 𝒱₀ (c : Thread nD τ) none) Set.univ (.op (.semWait s (3#32 : BitVec 32).toInt) k') Q) := by
  subst hs
  unfold owesE
  iintro ⟨#HR, Hc, ⟨%W, HO⟩, #Hl, Ha⟩ Hk
  ihave HI := (inv_at m K (c, none)) $$ HR
  iapply (Rounds.wp_wait_rest_token 𝒱₀ ER (sched m) (c : Thread nD τ) none (κ := K (c, none))
      (wpE_semWait_eq 𝒱₀ (c : Thread nD τ) none Set.univ) (Set.mem_univ _) () (O := OR c) (W := W) (R := 0) (m := 0) (T := ∅)
      (by rw [expect_bar]; decide)) $$ [HI Hc HO Ha]
  · isplitl [HI]; · iexact HI
    isplitl [Hc]; · iexact Hc
    isplitl [HO]; · iexact HO
    isplitr; · iapply (mayWait_bar c); iexact Hl
    iexact Ha
  iintro ⟨HO, Ha, -, Hp⟩
  ihave Hp := (Entails.of_eq (rest_bar m c)) $$ Hp
  iapply Hk
  isplitl [HO]; · iexists _; iexact HO
  isplitl [Ha]; · iexact Ha
  iexact Hp

/-- Transfer `k`: row block `nx c k` of the send buffer, into column block `c` of that device's receive buffer. -/
theorem wp_send (c n : Dev nD) (k : Fin 3) (hn : n = nx c k) {src : Memref sig .tc .vmem S1024x1024 .fp8e4m3} {dst : Memref sig (Dev.tc n : Thread nD τ).2.kind .vmem S1024x1024 .fp8e4m3}
    (hs : src = rowM (nx c k)) (hd : dst = colM c) {qs qr : DmaSem sig} (hqs : qs = sendQ k) (hqr : qr = recvQ k) (O : CellTallies nD τ sig Unit)
    {hsc : dst.view.ref.isScScratch = false} {hsrc : src.view.WordExact} {hdst : dst.view.WordExact}
    {hsem : DmaTarget.Typed .vmem (.dma qr) (.remote (Dev.tc n : Thread nD τ) dst (.dma qs) hsc)}
    {α : Type} {k' : PUnit.{1} → Prog (TpuEff nD τ sig (Elt F) Λ₀ .tc) α} {Q : α → sProp 𝕄}
    (fn : Buf (Elt F) ((nx c k : Thread nD τ).loc cc0_scratch1)) (W : Waits sig Unit) :
    iprop(cellInv ER (sched m) (K (c, some (false, k))) (sendCell c k) ∗ cellInv ER (sched m) (K (nx c k, some (true, k))) (recvCell (nx c k) k)
        ∗ rowPts c (nx c k) (xs m c) ∗ colPts (nx c k) c fn ∗ owes (c : Thread nD τ) (O + tallyAt (recvCell (nx c k) k) () N) W
        ∗ dutyTok ER (sendCell c k) 0 0 ∗ reached ER (sendCell c k) 0
        ∗ dutyTok ER (recvCell (nx c k) k) 0 0 ∗ reached ER (recvCell (nx c k) k) 0)
      ⊢ iprop((iprop(cred (tallyAt (sendCell c k) () N) ∗ owes (c : Thread nD τ) O W) -∗ wp frame (wpE (defs₀ (F := F)) 𝒱₀ (c : Thread nD τ) none) Set.univ (k' ⟨⟩) Q)
          -∗ wp frame (wpE (defs₀ (F := F)) 𝒱₀ (c : Thread nD τ) none) Set.univ
            (.op (.enqueueDma src (.remote (Dev.tc n : Thread nD τ) dst (.dma qs) hsc) (.dma qr) hsrc hdst hsem) k') Q) := by
  subst hn hqs hqr hs hd
  unfold rowPts colPts
  have hpay : (((colM c).view.loc (nx c k : Thread nD τ) ↦[(colM c).view.set]{fullShare} ((colM c).view.write (Elt F) fn ((rowM (nx c k)).view.read (Elt F) (xs m c)) Finset.univ)) : sProp 𝕄)
      ⊢ (sched m).payload (recvCell (nx c k) k) 0 0 := by
    rw [payload_recv]; unfold recvPay; rw [fr_nx]; exact Entails.of_eq (landed m c (nx c k) fn)
  have hp1 : (((rowM (nx c k)).view.loc (c : Thread nD τ) ↦[(rowM (nx c k)).view.set]{fullShare} (xs m c)) : sProp 𝕄)
      ⊢ (sched m).payload (sendCell c k) 0 0 := by
    rw [payload_send]; exact BI.Entails.refl _
  have hr : τ.routes (c : Thread nD τ) (nx c k : Thread nD τ) = true := by routes
  have h1 : (0 : Fin 3) ∈ (sched m).duties (sendCell c k) 0 := by rw [duties_send]; exact Finset.mem_singleton_self _
  have h2 : (0 : Fin 3) ∈ (sched m).duties (recvCell (nx c k) k) 0 := by rw [duties_recv]; exact Finset.mem_singleton_self _
  have hN : (colM c).view.amount (SemLoc.dma (recvQ k)) = N := show (colM c).view.dmaCredit = N from col_credit c
  exact Rounds.wp_send_pointsTo (src := rowM (nx c k)) (dst := colM c) (sS := .dma (sendQ k)) (sem := .dma (recvQ k)) (hsc := hsc) (hsrc := hsrc) (hdst := hdst) (hsem := hsem) (k := k') (Q := Q) (c' := (nx c k : Thread nD τ)) (q := fullShare) (Es := Set.univ) (defs := defs₀ (F := F)) (Γ := .empty) 𝒱₀ ER (sched m) (c : Thread nD τ) none (κ₁ := K (c, some (false, k))) (κ₂ := K (nx c k, some (true, k)))
    (r₁ := 0) (r₂ := 0) (d₁ := 0) (d₂ := 0) (fs := xs m c) (fd := fn) h1 h2
    () () N hN (amount_send m c k 0) (amount_recv m (nx c k) k 0) O rfl (W := W) hp1 hpay hr

/-- What transfer `k` takes, as the body holds it. -/
theorem send_pre (c : Dev nD) (k : Fin 3) (O : CellTallies nD τ sig Unit) :
    iprop(records m K ∗ rowPts c (nx c k) (xs m c) ∗ colAny (nx c k) c ∗ owesE c (O + tallyAt (recvCell (nx c k) k) () N)
        ∗ dutyTok ER (sendCell c k) 0 0 ∗ dutyTok ER (recvCell (nx c k) k) 0 0)
      ⊢ (iprop(∃ fn W, cellInv ER (sched m) (K (c, some (false, k))) (sendCell c k) ∗ cellInv ER (sched m) (K (nx c k, some (true, k))) (recvCell (nx c k) k)
        ∗ rowPts c (nx c k) (xs m c) ∗ colPts (nx c k) c fn ∗ owes (c : Thread nD τ) (O + tallyAt (recvCell (nx c k) k) () N) W
        ∗ dutyTok ER (sendCell c k) 0 0 ∗ reached ER (sendCell c k) 0
        ∗ dutyTok ER (recvCell (nx c k) k) 0 0 ∗ reached ER (recvCell (nx c k) k) 0) : sProp 𝕄) := by
  unfold owesE colAny
  iintro ⟨#HR, Hx, ⟨%fn, Hn⟩, ⟨%W, HO⟩, Hts, Htr⟩
  ihave HIs := (inv_at m K (c, some (false, k))) $$ HR
  ihave HIr := (inv_at m K (nx c k, some (true, k))) $$ HR
  ihave Hrs := (reached_at m K (c, some (false, k))) $$ HR
  ihave Hrr := (reached_at m K (nx c k, some (true, k))) $$ HR
  iexists fn; iexists W
  isplitl [HIs]; · iexact HIs
  isplitl [HIr]; · iexact HIr
  isplitl [Hx]; · iexact Hx
  isplitl [Hn]; · iexact Hn
  isplitl [HO]; · iexact HO
  isplitl [Hts]; · iexact Hts
  isplitl [Hrs]; · iexact Hrs
  isplitl [Htr] <;> iassumption

/-- The wait on send cell `k`: the row block back. -/
theorem wp_sent (c : Dev nD) (k : Fin 3) {q : DmaSem sig} (hq : q = sendQ k) {sp sp' : Space} {s' s : Shape} {e' e : EltTy} {κ' : Kind}
    {srcw : Memref sig .tc sp' s' e'} {dstw : Memref sig κ' sp s e} (hN : dstw.view.dmaCredit = N)
    {hsrc : srcw.view.WordExact} {hdst : dstw.view.WordExact}
    {α : Type} {k' : PUnit.{1} → Prog (TpuEff nD τ sig (Elt F) Λ₀ .tc) α} {Q : α → sProp 𝕄} :
    iprop(records m K ∗ cred (tallyAt (sendCell c k) () N) ∗ owesE c 0 ∗ atPos ER (sendCell c k) 0 ∅ 0)
      ⊢ iprop((iprop(owesE c 0 ∗ atPos ER (sendCell c k) (0 + 1) ∅ 0 ∗ rowPts c (nx c k) (xs m c))
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 q srcw dstw hsrc hdst) k') Q) := by
  subst hq
  unfold owesE
  iintro ⟨#HR, Hc, ⟨%W, HO⟩, Ha⟩ Hk
  ihave HI := (inv_at m K (c, some (false, k))) $$ HR
  iapply (Rounds.wp_wait_rest_token 𝒱₀ ER (sched m) (c : Thread nD τ) none (κ := K (c, some (false, k)))
      (wpE_waitDma2_eq 𝒱₀ (c : Thread nD τ) none Set.univ) (Set.mem_univ _) () (O := 0) (W := W) (R := 0) (m := 0) (T := ∅)
      (by rw [Nat.zero_add, expect_send]; exact hN)) $$ [HI Hc HO Ha]
  · isplitl [HI]; · iexact HI
    isplitl [Hc]; · rw [hN]; iexact Hc
    isplitl [HO]; · iexact HO
    isplitr; · rw [MayWait_zero]; iempintro
    iexact Ha
  iintro ⟨HO, Ha, -, Hp⟩
  ihave Hp := (Entails.of_eq ((rest_send m c k).trans (by unfold sendPay; rfl) : _ = rowPts c (nx c k) (xs m c))) $$ Hp
  iapply Hk
  isplitl [HO]; · iexists _; iexact HO
  isplitl [Ha]; · iexact Ha
  iexact Hp

/-- The wait on receive cell `k`: the column block from the device `k + 1` places back. -/
theorem wp_received (c : Dev nD) (k : Fin 3) {q : DmaSem sig} (hq : q = recvQ k) {sp sp' : Space} {s' s : Shape} {e' e : EltTy} {κ' : Kind}
    {srcw : Memref sig .tc sp' s' e'} {dstw : Memref sig κ' sp s e} (hN : dstw.view.dmaCredit = N)
    {hsrc : srcw.view.WordExact} {hdst : dstw.view.WordExact}
    {α : Type} {k' : PUnit.{1} → Prog (TpuEff nD τ sig (Elt F) Λ₀ .tc) α} {Q : α → sProp 𝕄} :
    iprop(records m K ∗ cred (tallyAt (recvCell c k) () N) ∗ owesE c 0 ∗ atPos ER (recvCell c k) 0 ∅ 0)
      ⊢ iprop((iprop(owesE c 0 ∗ atPos ER (recvCell c k) (0 + 1) ∅ 0 ∗ colPts c (fr c k) (gath m c))
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 q srcw dstw hsrc hdst) k') Q) := by
  subst hq
  unfold owesE
  iintro ⟨#HR, Hc, ⟨%W, HO⟩, Ha⟩ Hk
  ihave HI := (inv_at m K (c, some (true, k))) $$ HR
  iapply (Rounds.wp_wait_rest_token 𝒱₀ ER (sched m) (c : Thread nD τ) none (κ := K (c, some (true, k)))
      (wpE_waitDma2_eq 𝒱₀ (c : Thread nD τ) none Set.univ) (Set.mem_univ _) () (O := 0) (W := W) (R := 0) (m := 0) (T := ∅)
      (by rw [Nat.zero_add, expect_recv]; exact hN)) $$ [HI Hc HO Ha]
  · isplitl [HI]; · iexact HI
    isplitl [Hc]; · rw [hN]; iexact Hc
    isplitl [HO]; · iexact HO
    isplitr; · rw [MayWait_zero]; iempintro
    iexact Ha
  iintro ⟨HO, Ha, -, Hp⟩
  ihave Hp := (Entails.of_eq ((rest_recv m c k).trans (by unfold recvPay; rfl) : _ = colPts c (fr c k) (gath m c))) $$ Hp
  iapply Hk
  isplitl [HO]; · iexists _; iexact HO
  isplitl [Ha]; · iexact Ha
  iexact Hp

/-- A cell past its round closes, its counter at zero. -/
theorem close (c : Dev nD) (s : Ci) :
    iprop(records m K ∗ atPos ER (kcell (c, s)) (0 + 1) ∅ 0) ⊢ |={Set.univ}=> (semVal (kcell (c, s)) 0 : sProp 𝕄) := by
  iintro ⟨#HR, Ha⟩
  ihave HI := (inv_at m K (c, s)) $$ HR
  iapply (Rounds.cell_close ER (sched m) (Set.mem_univ (K (c, s))) (fun h => h) (R := 0 + 1) (duties_later m (kcell (c, s))))
  isplitl [HI] <;> iassumption

end Cert.Exchange

end
-- ==== Proof.Moves.lean ====
/-
Loads and stores of the body, each for any whole memref or at the block it touches, with what it reads or leaves.
-/
module

public import proofs.«01_k».proof.Proof.Steps

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-! ## Whole memrefs -/

theorem wp_loadAll (c : Dev nD) {cs : CoreSpace} {s : Shape} {e : EltTy} (M : Memref sig .tc cs s e) {off : Fin s.rank → ℕ}
    {inb : ∀ a, off a + s.size a ≤ s.size a} {hl : M.view.LoadsAt (Rect.unit off s.size inb).toLoadRect} (X : s.Idx → Elt F e)
    {α : Type} {k' : (s.Idx → Elt F e) → Prog (TpuEff nD τ sig (Elt F) Λ₀ .tc) α} {Q : α → sProp 𝕄} :
    (owns (c : Thread nD τ) M fullShare X : sProp 𝕄)
      ⊢ iprop((owns (c : Thread nD τ) M fullShare X -∗ wp frame (wpE (defs₀ (F := F)) 𝒱₀ (c : Thread nD τ) none) Set.univ (k' X) Q)
          -∗ wp frame (wpE (defs₀ (F := F)) 𝒱₀ (c : Thread nD τ) none) Set.univ (.op (.load M (Rect.unit off s.size inb).toLoadRect hl) k') Q) := by
  unfold owns
  iintro ⟨%f, %hf, H⟩ Hk
  have hr : M.view.readAt (Elt F) (Rect.unit off s.size inb).toLoadRect f = X := by
    rw [← hf]; funext y
    exact congrArg (M.view.read (Elt F) f) (funext fun a => Fin.ext (by
      show off a + 1 * (y a).val = (y a).val
      have := inb a; omega))
  iapply (wp_load 𝒱₀ (c : Thread nD τ) none Set.univ (m := M) (View.setOn_subset_set _ _)) $$ H
  iintro H
  rw [hr]
  iapply Hk
  iexists f
  isplitr; · ipureintro; exact hf
  iexact H

theorem wp_storeAll (c : Dev nD) {cs : CoreSpace} {s : Shape} {e : EltTy} (M : Memref sig .tc cs s e) {off : Fin s.rank → ℕ}
    {inb : ∀ a, off a + s.size a ≤ s.size a} (w : s.Idx → Elt F e) {hx : (M.access (Rect.unit off s.size inb)).Stores Finset.univ}
    {hm : (Finset.univ : Finset s.Idx) = Finset.univ ∨ ∀ a, (Rect.unit off s.size inb).stride a = 1} (X : s.Idx → Elt F e)
    {α : Type} {k' : PUnit.{1} → Prog (TpuEff nD τ sig (Elt F) Λ₀ .tc) α} {Q : α → sProp 𝕄} :
    (owns (c : Thread nD τ) M fullShare X : sProp 𝕄)
      ⊢ iprop((owns (c : Thread nD τ) M fullShare w -∗ wp frame (wpE (defs₀ (F := F)) 𝒱₀ (c : Thread nD τ) none) Set.univ (k' ⟨⟩) Q)
          -∗ wp frame (wpE (defs₀ (F := F)) 𝒱₀ (c : Thread nD τ) none) Set.univ (.op (.store M (Rect.unit off s.size inb) w Finset.univ hx hm) k') Q) := by
  unfold owns
  iintro ⟨%f, %hf, H⟩ Hk
  have hid : ∀ x : s.Idx, (Rect.unit off s.size inb).emb x = x := fun x => funext fun a => Fin.ext (by
    show off a + 1 * (x a).val = (x a).val
    have := inb a; omega)
  have hr : M.view.read (Elt F) ((M.access (Rect.unit off s.size inb)).write (Elt F) f w Finset.univ) = w := funext fun x => by
    have h := View.read_slice_write_emb (v := M.view) (Rect.unit off s.size inb) f w (Finset.mem_univ x)
    exact (congrArg (M.view.read (Elt F) ((M.access (Rect.unit off s.size inb)).write (Elt F) f w Finset.univ)) (hid x).symm).trans h
  iapply (wp_store 𝒱₀ (c : Thread nD τ) none Set.univ (m := M) (r := Rect.unit off s.size inb) (Mk := Finset.univ)
    (Memref.set_access_subset_setOn M (Rect.unit off s.size inb) |>.trans (View.setOn_subset_set _ _))) $$ H
  iintro H
  iapply Hk
  iexists _
  isplitr; · ipureintro; exact hr
  iexact H

/-- The one index of a one-element vector. -/
def i0 : S1.Idx := ix1 0
theorem eq_i0 (x : S1.Idx) : x = i0 := funext fun a => Fin.ext (by
  fin_cases a
  have h1 := (x 0).isLt; have h2 := (i0 0).isLt
  change (x 0).val < 1 at h1; change (i0 0).val < 1 at h2
  show (x 0).val = (i0 0).val; omega)

theorem wp_scalar (c : Dev nD) (M : Memref sig .tc .smem S1 .f32) {off : Fin S1.rank → ℕ} {inb : ∀ a, off a + S1.size a ≤ S1.size a}
    {h1 : (Rect.unit off S1.size inb).shape.numel = 1} {hp : (EltTy.f32).packing = 1} (X : S1.Idx → Elt F .f32)
    {α : Type} {k' : Elt F .f32 → Prog (TpuEff nD τ sig (Elt F) Λ₀ .tc) α} {Q : α → sProp 𝕄} :
    (owns (c : Thread nD τ) M fullShare X : sProp 𝕄)
      ⊢ iprop((owns (c : Thread nD τ) M fullShare X -∗ wp frame (wpE (defs₀ (F := F)) 𝒱₀ (c : Thread nD τ) none) Set.univ (k' (X i0)) Q)
          -∗ wp frame (wpE (defs₀ (F := F)) 𝒱₀ (c : Thread nD τ) none) Set.univ (smemLoad M (Rect.unit off S1.size inb) h1 hp >>= k') Q) := by
  unfold owns smemLoad
  iintro ⟨%f, %hf, H⟩ Hk
  have hr : ∀ x, (M.access (Rect.unit off S1.size inb)).read (Elt F) f x = X i0 := fun x => by
    have : (M.access (Rect.unit off S1.size inb)).read (Elt F) f x = M.view.read (Elt F) f ((Rect.unit off S1.size inb).emb x) := rfl
    rw [this, hf]
    exact congrArg X (eq_i0 _)
  rw [show ∀ h x, (smemLoadElt (p := .tc) M (Rect.unit off S1.size inb) h x Prog.ret >>= k') = smemLoadElt (nD := nD) (τ := τ) (Λ := Λ₀) (p := .tc) M (Rect.unit off S1.size inb) h x k' from fun _ _ => rfl]
  iapply (wp_smemLoadElt 𝒱₀ (c : Thread nD τ) none Set.univ (m := M) (Memref.set_access_subset_setOn M (Rect.unit off S1.size inb) |>.trans (View.setOn_subset_set _ _))) $$ H
  iintro H
  rw [hr]
  iapply Hk
  iexists f
  isplitr; · ipureintro; exact hf
  iexact H

/-! ## The blocks of the exchange -/

theorem rowM_of (d : Dev nD) {off : Fin S4096x1024.rank → ℕ} (h : off = ![1024 * d.val, 0]) (inb : ∀ a, off a + S1024x1024.size a ≤ S4096x1024.size a) :
    xsM.slice (Rect.unit (s := S4096x1024) off S1024x1024.size inb) (fun _ => rfl) = rowM d := by
  subst h; rfl
theorem colM_of (d : Dev nD) {off : Fin S1024x4096.rank → ℕ} (h : off = ![0, 1024 * d.val]) (inb : ∀ a, off a + S1024x1024.size a ≤ S1024x4096.size a) :
    xfM.slice (Rect.unit (s := S1024x4096) off S1024x1024.size inb) (fun _ => rfl) = colM d := by
  subst h; rfl
theorem sendQ_of (k : Fin 3) {off : Fin S3.rank → ℕ} (h : off = ![k.val]) (inb : ∀ a, off a + S1.size a ≤ S3.size a) :
    ((cc0_scratch3.slice (Rect.unit (s := S3) off S1.size inb)).squeeze S_ squeezes_S1_S_).sem = sendQ k := by
  subst h; revert inb; revert k; decide
theorem recvQ_of (k : Fin 3) {off : Fin S3.rank → ℕ} (h : off = ![k.val]) (inb : ∀ a, off a + S1.size a ≤ S3.size a) :
    ((cc0_scratch4.slice (Rect.unit (s := S3) off S1.size inb)).squeeze S_ squeezes_S1_S_).sem = recvQ k := by
  subst h; revert inb; revert k; decide

theorem row_loaded (d : Dev nD) : xsM.view.setOn (rowR d).toLoadRect.set ⊆ (Finset.univ : Finset S4096x1024.Idx) := Finset.subset_univ _

/-- Row block `d` of a send buffer, loaded. -/
theorem wp_loadRow (c d : Dev nD) {off : Fin S4096x1024.rank → ℕ} (h : off = ![1024 * d.val, 0]) {inb : ∀ a, off a + S1024x1024.size a ≤ S4096x1024.size a}
    {hl : xsM.view.LoadsAt (Rect.unit (s := S4096x1024) off S1024x1024.size inb).toLoadRect} (f : Buf (Elt F) ((c : Thread nD τ).loc cc0_scratch0))
    {α : Type} {k' : (S1024x1024.Idx → Elt F .fp8e4m3) → Prog (TpuEff nD τ sig (Elt F) Λ₀ .tc) α} {Q : α → sProp 𝕄} :
    (((c : Thread nD τ).loc cc0_scratch0 ↦{fullShare} f : sProp 𝕄))
      ⊢ iprop((((c : Thread nD τ).loc cc0_scratch0 ↦{fullShare} f) -∗ wp frame (wpE (defs₀ (F := F)) 𝒱₀ (c : Thread nD τ) none) Set.univ (k' ((rowM d).view.read (Elt F) f)) Q)
          -∗ wp frame (wpE (defs₀ (F := F)) 𝒱₀ (c : Thread nD τ) none) Set.univ
            (.op (.load xsM (Rect.unit (s := S4096x1024) off S1024x1024.size inb).toLoadRect hl) k') Q) := by
  subst h
  exact wp_load 𝒱₀ (c : Thread nD τ) none Set.univ (m := xsM) (row_loaded d)

theorem col_loaded (d : Dev nD) : xfM.view.setOn (colR d).toLoadRect.set ⊆ (colM d).view.set :=
  subset_of_eq (View.set_slice xfM.view (colR d)).symm
theorem col_stored (d : Dev nD) : (xfM.access (colR d)).setOn Finset.univ ⊆ (colM d).view.set :=
  subset_of_eq (View.setOn_univ _)
theorem slot_loaded (k : Fin 3) : wM.view.setOn (slotR k).toLoadRect.set ⊆ (slotM k).view.set :=
  subset_of_eq ((View.set_slice wM.view (slotR k)).symm.trans (set_slot k).symm)

/-- Column block `d` of a receive buffer, loaded; what it reads is not used. -/
theorem wp_loadCol (c d : Dev nD) {off : Fin S1024x4096.rank → ℕ} (h : off = ![0, 1024 * d.val]) {inb : ∀ a, off a + S1024x1024.size a ≤ S1024x4096.size a}
    {hl : xfM.view.LoadsAt (Rect.unit (s := S1024x4096) off S1024x1024.size inb).toLoadRect} (f : Buf (Elt F) ((c : Thread nD τ).loc cc0_scratch1))
    {α : Type} {k' : (S1024x1024.Idx → Elt F .fp8e4m3) → Prog (TpuEff nD τ sig (Elt F) Λ₀ .tc) α} {Q : α → sProp 𝕄} :
    (colPts c d f : sProp 𝕄)
      ⊢ iprop((∀ v, colPts c d f -∗ wp frame (wpE (defs₀ (F := F)) 𝒱₀ (c : Thread nD τ) none) Set.univ (k' v) Q)
          -∗ wp frame (wpE (defs₀ (F := F)) 𝒱₀ (c : Thread nD τ) none) Set.univ
            (.op (.load xfM (Rect.unit (s := S1024x4096) off S1024x1024.size inb).toLoadRect hl) k') Q) := by
  subst h
  unfold colPts
  iintro H Hk
  iapply (wp_load 𝒱₀ (c : Thread nD τ) none Set.univ (m := xfM) (S := (colM d).view.set)
    (col_loaded d)) $$ H
  iintro H
  iapply Hk $$ %_ H

/-- A device's own row block, stored into its own column block: as a transfer from itself would leave it. -/
theorem wp_storeOwn (c : Dev nD) {off : Fin S1024x4096.rank → ℕ} (h : off = ![0, 1024 * c.val]) {inb : ∀ a, off a + S1024x1024.size a ≤ S1024x4096.size a}
    {w : S1024x1024.Idx → Elt F .fp8e4m3} (hw : w = (rowM c).view.read (Elt F) (xs m c))
    {hx : (xfM.access (Rect.unit (s := S1024x4096) off S1024x1024.size inb)).Stores Finset.univ}
    {hm : (Finset.univ : Finset S1024x1024.Idx) = Finset.univ ∨ ∀ a, (Rect.unit (s := S1024x4096) off S1024x1024.size inb).stride a = 1}
    (f : Buf (Elt F) ((c : Thread nD τ).loc cc0_scratch1))
    {α : Type} {k' : PUnit.{1} → Prog (TpuEff nD τ sig (Elt F) Λ₀ .tc) α} {Q : α → sProp 𝕄} :
    (colPts c c f : sProp 𝕄)
      ⊢ iprop((colPts c c (gath m c) -∗ wp frame (wpE (defs₀ (F := F)) 𝒱₀ (c : Thread nD τ) none) Set.univ (k' ⟨⟩) Q)
          -∗ wp frame (wpE (defs₀ (F := F)) 𝒱₀ (c : Thread nD τ) none) Set.univ
            (.op (.store xfM (Rect.unit (s := S1024x4096) off S1024x1024.size inb) w Finset.univ hx hm) k') Q) := by
  subst h hw
  rw [← landed m c c f]
  unfold colPts
  exact wp_store 𝒱₀ (c : Thread nD τ) none Set.univ (m := xfM) (r := colR c) (Mk := Finset.univ) (S := (colM c).view.set) (col_stored c)

/-- Slot `k` of the ring, holding block `b`, loaded. -/
theorem wp_loadSlot (c : Dev nD) (k : Fin 3) (b : Fin 16) {off : Fin S3x4096x512.rank → ℕ} (h : off = ![k.val, 0, 0])
    {inb : ∀ a, off a + S1x4096x512.size a ≤ S3x4096x512.size a} {hl : wM.view.LoadsAt (Rect.unit (s := S3x4096x512) off S1x4096x512.size inb).toLoadRect}
    {α : Type} {k' : (S1x4096x512.Idx → Elt F .f32) → Prog (TpuEff nD τ sig (Elt F) Λ₀ .tc) α} {Q : α → sProp 𝕄} :
    (slotPts c k (wfill m c b) : sProp 𝕄)
      ⊢ iprop((slotPts c k (wfill m c b) -∗ wp frame (wpE (defs₀ (F := F)) 𝒱₀ (c : Thread nD τ) none) Set.univ (k' (wblk m c b)) Q)
          -∗ wp frame (wpE (defs₀ (F := F)) 𝒱₀ (c : Thread nD τ) none) Set.univ
            (.op (.load wM (Rect.unit (s := S3x4096x512) off S1x4096x512.size inb).toLoadRect hl) k') Q) := by
  subst h
  rw [← load_slot m c k b]
  unfold slotPts
  exact wp_load 𝒱₀ (c : Thread nD τ) none Set.univ (m := wM) (S := (slotM k).view.set) (slot_loaded k)

end Cert.Exchange

end
-- ==== Proof.Step0.lean ====
/-
The first grid point: weight copies issued, the barrier, the cast, the exchange of blocks, part by part.
-/
module

public import proofs.«01_k».proof.Proof.Moves

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-- The weakest precondition of the body on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Peers
variable (i : grid0.Coords) (c : Dev nD) (h : k0_cond1 i = 1#1)

theorem dev1_eq : (⟨k0_dev1 c, k0_dev1_lt i c h⟩ : Dev nD) = nx c 0 := Fin.ext (by show k0_dev1 c = (nx c 0).val; revert c; decide +kernel)
theorem dev2_eq : (⟨k0_dev2 c, k0_dev2_lt i c h⟩ : Dev nD) = nx c 1 := Fin.ext (by show k0_dev2 c = (nx c 1).val; revert c; decide +kernel)
theorem dev3_eq : (⟨k0_dev3 c, k0_dev3_lt i c h⟩ : Dev nD) = nx c 2 := Fin.ext (by show k0_dev3 c = (nx c 2).val; revert c; decide +kernel)
theorem dev4_eq : (⟨k0_dev4 c, k0_dev4_lt i c h⟩ : Dev nD) = nx c 0 := Fin.ext (by show k0_dev4 c = (nx c 0).val; revert c; decide +kernel)
theorem dev5_eq : (⟨k0_dev5 c, k0_dev5_lt i c h⟩ : Dev nD) = nx c 1 := Fin.ext (by show k0_dev5 c = (nx c 1).val; revert c; decide +kernel)
theorem dev6_eq : (⟨k0_dev6 c, k0_dev6_lt i c h⟩ : Dev nD) = nx c 2 := Fin.ext (by show k0_dev6 c = (nx c 2).val; revert c; decide +kernel)
end Peers

theorem off4_0 (c : Dev nD) : k0_off4 c 1#32 = ![1024 * (nx c 0).val, 0] := by revert c; decide +kernel
theorem off4_1 (c : Dev nD) : k0_off4 c 2#32 = ![1024 * (nx c 1).val, 0] := by revert c; decide +kernel
theorem off4_2 (c : Dev nD) : k0_off4 c 3#32 = ![1024 * (nx c 2).val, 0] := by revert c; decide +kernel

section Parts
variable (K : Dev nD × Ci → ℕ) (i : grid0.Coords) (c : Dev nD)
  (arg1 : Memref sig .tc .vmem S4096x1024 .f32) (harg1 : arg1.IsWhole)
  (arg3 : Memref sig .tc .smem S1 .f32) (harg3 : arg3.IsWhole) (arg4 : Memref sig .tc .smem S1 .f32) (harg4 : arg4.IsWhole)
  (arg5 : Memref sig .tc .vmem S1024x512 .f32) (harg5 : arg5.IsWhole)
  (ha : aM.IsWhole) (hs : xsM.IsWhole) (hf : xfM.IsWhole) (hw : wM.IsWhole)

/-- The copies of blocks 0, 1 and 2 of `w` issued, each into its slot. -/
theorem part1_spec (v2 : BitVec 32) {α : Type} {k' : Sems sig S_ → Prog (TpuEff nD τ sig (Elt F) Λ₀ .tc) α} {Q : α → sProp 𝕄} :
    iprop(free m c 0 ∗ free m c 1 ∗ free m c 2)
      ⊢ iprop((iprop(inflight m c 0 0 ∗ inflight m c 1 1 ∗ inflight m c 2 2) -∗ WP c (k' (SemArray.scalar (sig.barrier 0 rfl))) Q)
          -∗ WP c (k0_part1 i arg1 harg1 aM ha arg3 harg3 arg4 harg4 arg5 harg5 xsM hs xfM hf wM hw cc0_scratch3 cc0_scratch4 cc0_scratch5 v2 >>= k') Q) := by
  rw [k0_part1_eq_skeleton]
  unfold k0_part1_skel
  simp only [Prog.lift, Prog.bind_op, Prog.bind_ret, Prog.pure_eq_ret]
  iintro ⟨H0, H1, H2⟩ Hk
  iapply (wp_issue m c 0 0 (blkM_of 0 rfl _) (slotM_of 0 rfl _) (wQ_of 0 rfl _)) $$ H0
  iintro H0
  iapply (wp_issue m c 1 1 (blkM_of 1 rfl _) (slotM_of 1 rfl _) (wQ_of 1 rfl _)) $$ H1
  iintro H1
  iapply (wp_issue m c 2 2 (blkM_of 2 rfl _) (slotM_of 2 rfl _) (wQ_of 2 rfl _)) $$ H2
  iintro H2
  iapply Hk
  isplitl [H0]; · iexact H0
  isplitl [H1] <;> iassumption

/-- The three signals and the barrier wait, and what is staged, loaded and cast. -/
theorem part2_spec (v2 : BitVec 32) (h : k0_cond1 i = 1#1) (X : Vec F S4096x1024 .f32) (Y : Vec F S4096x1024 .fp8e4m3)
    {α : Type} {k' : (Σ' (v96 : FVec F S4096x1024 .fp8e4m3), Vec F S4096x1024 .fp8e4m3) → Prog (TpuEff nD τ sig (Elt F) Λ₀ .tc) α} {Q : α → sProp 𝕄} :
    iprop(records m K ∗ levAts L lv ∗ owesE c (O₀ c) ∗ cred (tallyAt (barCell c) () 3) ∗ atPos ER (barCell c) 0 ∅ 0
        ∗ dutyTok ER (barCell (nx c 0)) 0 0 ∗ dutyTok ER (barCell (nx c 1)) 0 1 ∗ dutyTok ER (barCell (nx c 2)) 0 2
        ∗ colAny c (nx c 0) ∗ colAny c (nx c 1) ∗ colAny c (nx c 2)
        ∗ owns (c : Thread nD τ) arg1 fullShare X ∗ owns (c : Thread nD τ) xsM fullShare Y)
      ⊢ iprop((iprop(owesE c (OR c) ∗ atPos ER (barCell c) (0 + 1) ∅ 0 ∗ colAny (nx c 0) c ∗ colAny (nx c 1) c ∗ colAny (nx c 2) c
            ∗ owns (c : Thread nD τ) arg1 fullShare X ∗ owns (c : Thread nD τ) xsM fullShare Y) -∗ WP c (k' ⟨k0_pay1 X, Y⟩) Q)
          -∗ WP c (k0_part2 i arg1 harg1 aM ha arg3 harg3 arg4 harg4 arg5 harg5 xsM hs xfM hf wM hw cc0_scratch3 cc0_scratch4 cc0_scratch5 c v2 h (SemArray.scalar (sig.barrier 0 rfl)) >>= k') Q) := by
  rw [k0_part2_eq_skeleton]
  unfold k0_part2_skel
  simp only [Prog.lift, semSignalWord, semWaitWord, Prog.bind_op, Prog.bind_ret, Prog.pure_eq_ret]
  iintro ⟨#HR, #Hl, HO, Hc, Ha, Ht0, Ht1, Ht2, H0, H1, H2, Hx, Hy⟩ Hk
  unfold O₀
  iapply (wp_sig m K c _ 0 (dev1_eq i c h) rfl (OR c + tallyAt (barCell (nx c 2)) () 1 + tallyAt (barCell (nx c 1)) () 1)) $$ [HO Ht0 H0]
  · isplitr; · iexact HR
    isplitl [HO]; · iexact HO
    isplitl [Ht0] <;> iassumption
  iintro HO
  iapply (wp_sig m K c _ 1 (dev2_eq i c h) rfl (OR c + tallyAt (barCell (nx c 2)) () 1)) $$ [HO Ht1 H1]
  · isplitr; · iexact HR
    isplitl [HO]; · iexact HO
    isplitl [Ht1] <;> iassumption
  iintro HO
  iapply (wp_sig m K c _ 2 (dev3_eq i c h) rfl (OR c)) $$ [HO Ht2 H2]
  · isplitr; · iexact HR
    isplitl [HO]; · iexact HO
    isplitl [Ht2] <;> iassumption
  iintro HO
  iapply (wp_bar m K c rfl) $$ [HO Hc Ha]
  · isplitr; · iexact HR
    isplitl [Hc]; · iexact Hc
    isplitl [HO]; · iexact HO
    isplitr; · iexact Hl
    iexact Ha
  iintro ⟨HO, Ha, H0, H1, H2⟩
  iapply (wp_loadAll c arg1 X) $$ Hx
  iintro Hx
  iapply (wp_loadAll c xsM Y) $$ Hy
  iintro Hy
  iapply Hk
  isplitl [HO]; · iexact HO
  isplitl [Ha]; · iexact Ha
  isplitl [H0]; · iexact H0
  isplitl [H1]; · iexact H1
  isplitl [H2]; · iexact H2
  isplitl [Hx] <;> iassumption

theorem pay3_id (v : Vec F S1024x1024 .fp8e4m3) : k0_pay3 v = v := shapeCast_self v _

/-- Transfer `k`: row block `nx c k` to device `nx c k`. -/
theorem wp_transfer (n : Dev nD) (k : Fin 3) (hn : n = nx c k) {src : Memref sig .tc .vmem S1024x1024 .fp8e4m3} {dst : Memref sig (Dev.tc n : Thread nD τ).2.kind .vmem S1024x1024 .fp8e4m3}
    (hs : src = rowM (nx c k)) (hd : dst = colM c) {qs qr : DmaSem sig} (hqs : qs = sendQ k) (hqr : qr = recvQ k) (O : CellTallies nD τ sig Unit)
    {hsc : dst.view.ref.isScScratch = false} {hsrc : src.view.WordExact} {hdst : dst.view.WordExact}
    {hsem : DmaTarget.Typed .vmem (.dma qr) (.remote (Dev.tc n : Thread nD τ) dst (.dma qs) hsc)}
    {α : Type} {k' : PUnit.{1} → Prog (TpuEff nD τ sig (Elt F) Λ₀ .tc) α} {Q : α → sProp 𝕄} :
    iprop(records m K ∗ rowPts c (nx c k) (xs m c) ∗ colAny (nx c k) c ∗ owesE c (O + tallyAt (recvCell (nx c k) k) () N)
        ∗ dutyTok ER (sendCell c k) 0 0 ∗ dutyTok ER (recvCell (nx c k) k) 0 0)
      ⊢ iprop((iprop(cred (tallyAt (sendCell c k) () N) ∗ owesE c O) -∗ wp frame (wpE (defs₀ (F := F)) 𝒱₀ (c : Thread nD τ) none) Set.univ (k' ⟨⟩) Q)
          -∗ wp frame (wpE (defs₀ (F := F)) 𝒱₀ (c : Thread nD τ) none) Set.univ
            (.op (.enqueueDma src (.remote (Dev.tc n : Thread nD τ) dst (.dma qs) hsc) (.dma qr) hsrc hdst hsem) k') Q) := by
  iintro H Hk
  ihave H := (send_pre m K c k O) $$ H
  icases H with ⟨%fn, %W, H⟩
  iapply (wp_send m K c n k hn hs hd hqs hqr O fn W) $$ H
  iintro ⟨Hc, HO⟩
  iapply Hk
  isplitl [Hc]; · iexact Hc
  unfold owesE
  iexists W; iexact HO

/-- The cast block stored, its own row block copied across, and the first transfer issued. -/
theorem part3_spec (v2 : BitVec 32) (h : k0_cond1 i = 1#1) (Y Y' : Vec F S4096x1024 .fp8e4m3)
    {α : Type} {k' : (Σ' (v118 : BitVec 32) (v129 : BitVec 32), BitVec 32) → Prog (TpuEff nD τ sig (Elt F) Λ₀ .tc) α} {Q : α → sProp 𝕄} :
    iprop(records m K ∗ owesE c (OR c) ∗ owns (c : Thread nD τ) xsM fullShare Y ∗ colAny c c
        ∗ colAny (nx c 0) c ∗ dutyTok ER (sendCell c 0) 0 0 ∗ dutyTok ER (recvCell (nx c 0) 0) 0 0)
      ⊢ iprop((∀ v, iprop(owesE c (0 + tallyAt (recvCell (nx c 2) 2) () N + tallyAt (recvCell (nx c 1) 1) () N) ∗ cred (tallyAt (sendCell c 0) () N)
            ∗ rowPts c c (xs m c) ∗ rowPts c (nx c 1) (xs m c) ∗ rowPts c (nx c 2) (xs m c) ∗ colPts c c (gath m c)) -∗ WP c (k' v) Q)
          -∗ WP c (k0_part3 i arg1 harg1 aM ha arg3 harg3 arg4 harg4 arg5 harg5 xsM hs xfM hf wM hw cc0_scratch3 cc0_scratch4 cc0_scratch5 c v2 h (k0_pay1 (xin m c)) Y' >>= k') Q) := by
  rw [k0_part3_eq_skeleton]
  unfold k0_part3_skel
  simp only [Prog.lift, Prog.bind_op, Prog.bind_ret, Prog.pure_eq_ret]
  rw [show k0_pay2 (k0_pay1 (xin m c)) = xs m c from rfl]
  iintro ⟨#HR, HO, Hy, Hcc, Hn, Hts, Htr⟩ Hk
  iapply (wp_storeAll c xsM (xs m c) Y) $$ Hy
  iintro Hy
  ihave Hy := (Entails.of_eq (owns_whole (c : Thread nD τ) cc0_scratch0 fullShare (xs m c))) $$ Hy
  iapply (wp_loadRow c c (k0_off1_eq c) (xs m c)) $$ Hy
  iintro Hy
  unfold colAny
  icases Hcc with ⟨%f, Hcc⟩
  iapply (wp_loadCol c c (k0_off2_eq c) f) $$ Hcc
  iintro %v Hcc
  iapply (wp_storeOwn m c (k0_off2_eq c) (pay3_id _) f) $$ Hcc
  iintro Hcc
  ihave Hy := (Entails.of_eq (rows_eq c (xs m c))) $$ Hy
  icases Hy with ⟨Hyc, Hy0, Hy1, Hy2⟩
  unfold OR
  iapply (wp_transfer m K c _ 0 (dev4_eq i c h) (rowM_of (nx c 0) (off4_0 c) _) (colM_of c (k0_off3_eq c) _) (sendQ_of 0 rfl _) (recvQ_of 0 rfl _)
    (0 + tallyAt (recvCell (nx c 2) 2) () N + tallyAt (recvCell (nx c 1) 1) () N)) $$ [HO Hy0 Hn Hts Htr]
  · isplitr; · iexact HR
    isplitl [Hy0]; · iexact Hy0
    isplitl [Hn]; · unfold colAny; iexact Hn
    isplitl [HO]; · iexact HO
    isplitl [Hts] <;> iassumption
  iintro ⟨Hc, HO⟩
  iapply Hk
  isplitl [HO]; · iexact HO
  isplitl [Hc]; · iexact Hc
  isplitl [Hyc]; · iexact Hyc
  isplitl [Hy1]; · iexact Hy1
  isplitl [Hy2] <;> iassumption

/-- The second transfer issued. -/
theorem part4_spec (v2 v129 v131 : BitVec 32) (h : k0_cond1 i = 1#1)
    {α : Type} {k' : (Σ' (v139 : BitVec 32), BitVec 32) → Prog (TpuEff nD τ sig (Elt F) Λ₀ .tc) α} {Q : α → sProp 𝕄} :
    iprop(records m K ∗ rowPts c (nx c 1) (xs m c) ∗ colAny (nx c 1) c
        ∗ owesE c (0 + tallyAt (recvCell (nx c 2) 2) () N + tallyAt (recvCell (nx c 1) 1) () N) ∗ dutyTok ER (sendCell c 1) 0 0 ∗ dutyTok ER (recvCell (nx c 1) 1) 0 0)
      ⊢ iprop((∀ v, iprop(cred (tallyAt (sendCell c 1) () N) ∗ owesE c (0 + tallyAt (recvCell (nx c 2) 2) () N)) -∗ WP c (k' v) Q)
          -∗ WP c (k0_part4 i arg1 harg1 aM ha arg3 harg3 arg4 harg4 arg5 harg5 xsM hs xfM hf wM hw cc0_scratch3 cc0_scratch4 cc0_scratch5 c v2 h v129 v131 >>= k') Q) := by
  rw [k0_part4_eq_skeleton]
  unfold k0_part4_skel
  simp only [Prog.lift, Prog.bind_op, Prog.bind_ret, Prog.pure_eq_ret]
  iintro H Hk
  iapply (wp_transfer m K c _ 1 (dev5_eq i c h) (rowM_of (nx c 1) (off4_1 c) _) (colM_of c (k0_off3_eq c) _) (sendQ_of 1 rfl _) (recvQ_of 1 rfl _)
    (0 + tallyAt (recvCell (nx c 2) 2) () N)) $$ H
  iintro H
  iapply Hk $$ H

theorem row_credit {off : Fin S4096x1024.rank → ℕ} (inb : ∀ a, off a + S1024x1024.size a ≤ S4096x1024.size a) :
    (xsM.slice (Rect.unit (s := S4096x1024) off S1024x1024.size inb) (fun _ => rfl)).view.dmaCredit = N := rfl
theorem col_credit' {off : Fin S1024x4096.rank → ℕ} (inb : ∀ a, off a + S1024x1024.size a ≤ S1024x4096.size a) :
    (xfM.slice (Rect.unit (s := S1024x4096) off S1024x1024.size inb) (fun _ => rfl)).view.dmaCredit = N := rfl

/-- The third transfer issued, and the first two transfers each way waited for. -/
theorem part5_spec (v118 v139 : BitVec 32) (h : k0_cond1 i = 1#1)
    {α : Type} {k' : PUnit.{1} → Prog (TpuEff nD τ sig (Elt F) Λ₀ .tc) α} {Q : α → sProp 𝕄} :
    iprop(records m K ∗ rowPts c (nx c 2) (xs m c) ∗ colAny (nx c 2) c
        ∗ owesE c (0 + tallyAt (recvCell (nx c 2) 2) () N) ∗ dutyTok ER (sendCell c 2) 0 0 ∗ dutyTok ER (recvCell (nx c 2) 2) 0 0
        ∗ cred (tallyAt (sendCell c 0) () N) ∗ cred (tallyAt (sendCell c 1) () N) ∗ cred (tallyAt (recvCell c 0) () N) ∗ cred (tallyAt (recvCell c 1) () N)
        ∗ atPos ER (sendCell c 0) 0 ∅ 0 ∗ atPos ER (sendCell c 1) 0 ∅ 0 ∗ atPos ER (recvCell c 0) 0 ∅ 0 ∗ atPos ER (recvCell c 1) 0 ∅ 0)
      ⊢ iprop((iprop(owesE c 0 ∗ cred (tallyAt (sendCell c 2) () N)
            ∗ atPos ER (sendCell c 0) (0 + 1) ∅ 0 ∗ atPos ER (sendCell c 1) (0 + 1) ∅ 0 ∗ atPos ER (recvCell c 0) (0 + 1) ∅ 0 ∗ atPos ER (recvCell c 1) (0 + 1) ∅ 0
            ∗ rowPts c (nx c 0) (xs m c) ∗ rowPts c (nx c 1) (xs m c) ∗ colPts c (fr c 0) (gath m c) ∗ colPts c (fr c 1) (gath m c)) -∗ WP c (k' ⟨⟩) Q)
          -∗ WP c (k0_part5 i arg1 harg1 aM ha arg3 harg3 arg4 harg4 arg5 harg5 xsM hs xfM hf wM hw cc0_scratch3 cc0_scratch4 cc0_scratch5 c h v118 v139 >>= k') Q) := by
  rw [k0_part5_eq_skeleton]
  unfold k0_part5_skel
  simp only [Prog.lift, Prog.bind_op, Prog.bind_ret, Prog.pure_eq_ret]
  iintro ⟨#HR, Hy, Hn, HO, Hts, Htr, Hs0, Hs1, Hr0, Hr1, As0, As1, Ar0, Ar1⟩ Hk
  iapply (wp_transfer m K c _ 2 (dev6_eq i c h) (rowM_of (nx c 2) (off4_2 c) _) (colM_of c (k0_off3_eq c) _) (sendQ_of 2 rfl _) (recvQ_of 2 rfl _) 0) $$ [HO Hy Hn Hts Htr]
  · isplitr; · iexact HR
    isplitl [Hy]; · iexact Hy
    isplitl [Hn]; · iexact Hn
    isplitl [HO]; · iexact HO
    isplitl [Hts] <;> iassumption
  iintro ⟨Hs2, HO⟩
  iapply (wp_sent m K c 0 (sendQ_of 0 rfl _) (row_credit _)) $$ [Hs0 HO As0]
  · isplitr; · iexact HR
    isplitl [Hs0]; · iexact Hs0
    isplitl [HO] <;> iassumption
  iintro ⟨HO, As0, Hy0⟩
  iapply (wp_received m K c 0 (recvQ_of 0 rfl _) (col_credit' _)) $$ [Hr0 HO Ar0]
  · isplitr; · iexact HR
    isplitl [Hr0]; · iexact Hr0
    isplitl [HO] <;> iassumption
  iintro ⟨HO, Ar0, Hc0⟩
  iapply (wp_sent m K c 1 (sendQ_of 1 rfl _) (row_credit _)) $$ [Hs1 HO As1]
  · isplitr; · iexact HR
    isplitl [Hs1]; · iexact Hs1
    isplitl [HO] <;> iassumption
  iintro ⟨HO, As1, Hy1⟩
  iapply (wp_received m K c 1 (recvQ_of 1 rfl _) (col_credit' _)) $$ [Hr1 HO Ar1]
  · isplitr; · iexact HR
    isplitl [Hr1]; · iexact Hr1
    isplitl [HO] <;> iassumption
  iintro ⟨HO, Ar1, Hc1⟩
  iapply Hk
  isplitl [HO]; · iexact HO
  isplitl [Hs2]; · iexact Hs2
  isplitl [As0]; · iexact As0
  isplitl [As1]; · iexact As1
  isplitl [Ar0]; · iexact Ar0
  isplitl [Ar1]; · iexact Ar1
  isplitl [Hy0]; · iexact Hy0
  isplitl [Hy1]; · iexact Hy1
  isplitl [Hc0] <;> iassumption

end Parts

end Cert.Exchange

end
-- ==== Proof.Point.lean ====
/-
The body at one grid point: at the first the exchange, then at every point a block of `w` waited for, multiplied and replaced.
-/
module

public import proofs.«01_k».proof.Proof.Step0

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-- A program run up to `R`, then the rest from `R`. -/
theorem wp_cut (c : Dev nD) {α β : Type} {p : Prog (TpuEff nD τ sig (Elt F) Λ₀ .tc) α} {k : α → Prog (TpuEff nD τ sig (Elt F) Λ₀ .tc) β} {Q : β → sProp 𝕄}
    {P R : sProp 𝕄} (h : P ⊢ WP c p fun _ => R) (hk : ∀ a, R ⊢ WP c (k a) Q) : P ⊢ WP c (p >>= k) Q := by
  unfold WP
  rw [wp_bind]
  exact h.trans (wp_mono _ _ _ fun a => hk a)

/-- All seven cells closed. -/
def closed (c : Dev nD) : sProp 𝕄 :=
  iprop(semVal (barCell c) 0 ∗ semVal (sendCell c 0) 0 ∗ semVal (sendCell c 1) 0 ∗ semVal (sendCell c 2) 0
    ∗ semVal (recvCell c 0) 0 ∗ semVal (recvCell c 1) 0 ∗ semVal (recvCell c 2) 0)

/-- What the exchange starts from: the cells' records, credits, positions and tokens. -/
def cells (K : Dev nD × Ci → ℕ) (c : Dev nD) : sProp 𝕄 :=
  iprop(records m K ∗ levAts L lv
    ∗ (cred (tallyAt (barCell c) () 3) ∗ cred (tallyAt (recvCell c 0) () N) ∗ cred (tallyAt (recvCell c 1) () N) ∗ cred (tallyAt (recvCell c 2) () N))
    ∗ (atPos ER (barCell c) 0 ∅ 0 ∗ atPos ER (sendCell c 0) 0 ∅ 0 ∗ atPos ER (sendCell c 1) 0 ∅ 0 ∗ atPos ER (sendCell c 2) 0 ∅ 0
      ∗ atPos ER (recvCell c 0) 0 ∅ 0 ∗ atPos ER (recvCell c 1) 0 ∅ 0 ∗ atPos ER (recvCell c 2) 0 ∅ 0)
    ∗ (dutyTok ER (barCell (nx c 0)) 0 0 ∗ dutyTok ER (barCell (nx c 1)) 0 1 ∗ dutyTok ER (barCell (nx c 2)) 0 2)
    ∗ (dutyTok ER (sendCell c 0) 0 0 ∗ dutyTok ER (sendCell c 1) 0 0 ∗ dutyTok ER (sendCell c 2) 0 0)
    ∗ (dutyTok ER (recvCell (nx c 0) 0) 0 0 ∗ dutyTok ER (recvCell (nx c 1) 1) 0 0 ∗ dutyTok ER (recvCell (nx c 2) 2) 0 0))

/-- The buffers as the call finds them. -/
def bufs (c : Dev nD) : sProp 𝕄 :=
  iprop((∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f)
    ∗ free m c 0 ∗ free m c 1 ∗ free m c 2)

/-- After the exchange, before point `t`. -/
def mid (c : Dev nD) (t : ℕ) : sProp 𝕄 :=
  iprop(((c : Thread nD τ).loc cc0_scratch0 ↦{fullShare} (xs m c)) ∗ ((c : Thread nD τ).loc cc0_scratch1 ↦{fullShare} (gath m c)) ∗ closed c ∗ ringAt m c t)

/-- In point `t`, once its block of `w` is used. -/
def drained (c : Dev nD) (t : ℕ) : sProp 𝕄 :=
  iprop(((c : Thread nD τ).loc cc0_scratch0 ↦{fullShare} (xs m c)) ∗ ((c : Thread nD τ).loc cc0_scratch1 ↦{fullShare} (gath m c)) ∗ closed c
    ∗ free m c (slotOf t) ∗ others m c t)

/-- The three inputs as staged. -/
def ins (c : Dev nD) (arg1 : Memref sig .tc .vmem S4096x1024 .f32) (arg3 arg4 : Memref sig .tc .smem S1 .f32)
    (X : Vec F S4096x1024 .f32) (A B : S1.Idx → Elt F .f32) : sProp 𝕄 :=
  iprop(owns (c : Thread nD τ) arg1 fullShare X ∗ owns (c : Thread nD τ) arg3 fullShare A ∗ owns (c : Thread nD τ) arg4 fullShare B)

/-- Before point `t`: at the first, what the exchange starts from; later, what it leaves. -/
def entry (c : Dev nD) (t : ℕ) : sProp 𝕄 :=
  if t = 0 then iprop((∃ K, cells m K c) ∗ bufs m c) else mid m c t
/-- What the device owes before point `t`. -/
def debt (c : Dev nD) (t : ℕ) : CellTallies nD τ sig Unit := if t = 0 then O₀ c else 0

theorem cond1_iff (i : grid0.Coords) : k0_cond1 i = 1#1 ↔ (i 0).val = 0 := by revert i; decide +kernel
theorem cond2_iff (i : grid0.Coords) : k0_cond2 i = 1#1 ↔ (i 0).val + 3 < 16 := by revert i; decide +kernel

theorem slot_credit {off : Fin S3x4096x512.rank → ℕ} (inb : ∀ a, off a + S1x4096x512.size a ≤ S3x4096x512.size a) :
    ((wM.slice (Rect.unit (s := S3x4096x512) off S1x4096x512.size inb) (fun _ => rfl)).squeeze S4096x512 squeezes_S1x4096x512_S4096x512).view.dmaCredit = NW := rfl

section Point
variable (i : grid0.Coords) (c : Dev nD) (t : Fin 16) (hi : (i 0).val = t.val)
  (arg1 : Memref sig .tc .vmem S4096x1024 .f32) (harg1 : arg1.IsWhole)
  (arg3 : Memref sig .tc .smem S1 .f32) (harg3 : arg3.IsWhole) (arg4 : Memref sig .tc .smem S1 .f32) (harg4 : arg4.IsWhole)
  (arg5 : Memref sig .tc .vmem S1024x512 .f32) (harg5 : arg5.IsWhole)
  (ha : aM.IsWhole) (hs : xsM.IsWhole) (hf : xfM.IsWhole) (hw : wM.IsWhole)

/-- From `mid`: the block of `w` waited for, and everything the point multiplies loaded. -/
theorem tail_spec (X : Vec F S4096x1024 .f32) (A B : S1.Idx → Elt F .f32)
    {q : DmaSem sig} (hq : q = wQ (slotOf t.val)) {sp sp' : Space} {s' s : Shape} {e' e : EltTy} {κ' : Kind}
    {srcw : Memref sig .tc sp' s' e'} {dstw : Memref sig κ' sp s e} (hN : dstw.view.dmaCredit = NW)
    {hsrc : srcw.view.WordExact} {hdst : dstw.view.WordExact}
    {off : Fin S3x4096x512.rank → ℕ} (h : off = ![(slotOf t.val).val, 0, 0])
    {inb : ∀ a, off a + S1x4096x512.size a ≤ S3x4096x512.size a} {hl : wM.view.LoadsAt (Rect.unit (s := S3x4096x512) off S1x4096x512.size inb).toLoadRect}
    {off' : Fin S1024x4096.rank → ℕ} {inb' : ∀ a, off' a + S1024x4096.size a ≤ S1024x4096.size a} {hl' : xfM.view.LoadsAt (Rect.unit (s := S1024x4096) off' S1024x4096.size inb').toLoadRect}
    {off3 off4 : Fin S1.rank → ℕ} {inb3 : ∀ a, off3 a + S1.size a ≤ S1.size a} {inb4 : ∀ a, off4 a + S1.size a ≤ S1.size a}
    {h1 : (Rect.unit (s := S1) off3 S1.size inb3).shape.numel = 1} {hp : (EltTy.f32).packing = 1} {h1' : (Rect.unit (s := S1) off4 S1.size inb4).shape.numel = 1} {hp' : (EltTy.f32).packing = 1}
    {α : Type} {k' : Vec F S1x4096x512 .f32 → Vec F S1024x4096 .fp8e4m3 → Elt F .f32 → Elt F .f32 → Prog (TpuEff nD τ sig (Elt F) Λ₀ .tc) α} {Q : α → sProp 𝕄} :
    iprop(mid m c t.val ∗ owesE c 0 ∗ ins c arg1 arg3 arg4 X A B)
      ⊢ iprop((iprop(drained m c t.val ∗ owesE c 0 ∗ ins c arg1 arg3 arg4 X A B) -∗ WP c (k' (wblk m c t) (gath m c) (A i0) (B i0)) Q)
          -∗ wp frame (wpE (defs₀ (F := F)) 𝒱₀ (c : Thread nD τ) none) Set.univ
            (.op (.waitDma2 q srcw dstw hsrc hdst) fun _ => .op (.load wM (Rect.unit (s := S3x4096x512) off S1x4096x512.size inb).toLoadRect hl) fun v14 =>
              .op (.load xfM (Rect.unit (s := S1024x4096) off' S1024x4096.size inb').toLoadRect hl') fun v17 =>
              smemLoad arg3 (Rect.unit (s := S1) off3 S1.size inb3) h1 hp >>= fun v19 => smemLoad arg4 (Rect.unit (s := S1) off4 S1.size inb4) h1' hp' >>= fun v20 =>
              k' v14 v17 v19 v20) Q) := by
  unfold mid ins
  rw [ring_before]
  iintro ⟨⟨Hy, Hf, Hcl, HF, Ho⟩, HO, Hx, H3, H4⟩ Hk
  unfold owesE
  icases HO with ⟨%W, HO⟩
  iapply (wp_land m c (slotOf t.val) t hq hN) $$ [HF HO]
  · isplitl [HF] <;> iassumption
  iintro ⟨Hv, Hs, Ht, HO⟩
  iapply (wp_loadSlot m c (slotOf t.val) t h) $$ Hs
  iintro Hs
  ihave Hf := (Entails.of_eq (owns_whole (c : Thread nD τ) cc0_scratch1 fullShare (gath m c)).symm) $$ Hf
  iapply (wp_loadAll c xfM (gath m c)) $$ Hf
  iintro Hf
  iapply (wp_scalar c arg3 A) $$ H3
  iintro H3
  iapply (wp_scalar c arg4 B) $$ H4
  iintro H4
  ihave Hf := (Entails.of_eq (owns_whole (c : Thread nD τ) cc0_scratch1 fullShare (gath m c))) $$ Hf
  iapply Hk
  unfold drained free
  isplitl [Hy Hf Hcl Hv Hs Ht Ho]
  · isplitl [Hy]; · iexact Hy
    isplitl [Hf]; · iexact Hf
    isplitl [Hcl]; · iexact Hcl
    isplitr [Ho]
    · isplitl [Hv]; · iexact Hv
      isplitl [Hs]; · iexists _; iexact Hs
      iexact Ht
    iexact Ho
  isplitl [HO]; · iexists _; iexact HO
  isplitl [Hx]; · iexact Hx
  isplitl [H3] <;> iassumption

include hi in
/-- The exchange at the first point, nothing at the others; the block of `w` waited for; the product of it and the
    gathered columns, scaled, clipped and passed through its gate. -/
theorem part6_spec (X : Vec F S4096x1024 .f32) (hX : t.val = 0 → X = xin m c) (A B : S1.Idx → Elt F .f32)
    {α : Type} {k' : (Σ' (arg0 : BitVec 32), FVec F S1024x512 .f32) → Prog (TpuEff nD τ sig (Elt F) Λ₀ .tc) α} {Q : α → sProp 𝕄} :
    iprop(entry m c t.val ∗ owesE c (debt c t.val) ∗ ins c arg1 arg3 arg4 X A B)
      ⊢ iprop((∀ v, iprop(drained m c t.val ∗ owesE c 0 ∗ ins c arg1 arg3 arg4 X A B)
            -∗ WP c (k' ⟨v, k0_pay4 (wblk m c t) (gath m c) (A i0) (B i0)⟩) Q)
          -∗ WP c (k0_part6 i arg1 harg1 aM ha arg3 harg3 arg4 harg4 arg5 harg5 xsM hs xfM hf wM hw cc0_scratch3 cc0_scratch4 cc0_scratch5 >>= k') Q) := by
  rw [k0_part6_eq_skeleton]
  unfold k0_part6_skel
  simp only [Prog.lift, Prog.bind_op, Prog.bind_ret, Prog.pure_eq_ret, bind_assoc, wp_deviceId]
  have hq := wQ_of (slotOf t.val) ((k0_off5_eq i).trans (by rw [hi]; rfl)) (k0_off5_inb i)
  have h8 : k0_off8 i = ![(slotOf t.val).val, 0, 0] := (k0_off8_eq i).trans (by rw [hi]; rfl)
  by_cases h : k0_cond1 i = 1#1
  · rw [dif_pos h]
    simp only [bind_assoc, Prog.bind_op, Prog.bind_ret]
    have h0 : t.val = 0 := hi.symm.trans ((cond1_iff i).mp h)
    have e1 : (entry m c t.val : sProp 𝕄) = iprop((∃ K, cells m K c) ∗ bufs m c) := if_pos h0
    have e2 : debt c t.val = O₀ c := if_pos h0
    rw [e1, e2, hX h0]
    unfold cells bufs
    iintro ⟨⟨⟨%K, #HR, #Hl, ⟨Cb, Cr0, Cr1, Cr2⟩, ⟨Ab, As0, As1, As2, Ar0, Ar1, Ar2⟩, ⟨Tb0, Tb1, Tb2⟩, ⟨Ts0, Ts1, Ts2⟩, ⟨Tr0, Tr1, Tr2⟩⟩, ⟨⟨%f0, Hy⟩, ⟨%f1, Hf⟩, F0, F1, F2⟩⟩, HO, Hins⟩ Hk
    unfold ins
    icases Hins with ⟨Hx, H3, H4⟩
    ihave Hy := (Entails.of_eq (owns_whole (c : Thread nD τ) cc0_scratch0 fullShare f0).symm) $$ Hy
    ihave Hf := (Entails.of_eq (cols_eq c f1)) $$ Hf
    icases Hf with ⟨Hfc, Hf0, Hf1, Hf2⟩
    iapply (part1_spec m i c arg1 harg1 arg3 harg3 arg4 harg4 arg5 harg5 ha hs hf hw) $$ [F0 F1 F2]
    · isplitl [F0]; · iexact F0
      isplitl [F1] <;> iassumption
    iintro ⟨F0, F1, F2⟩
    iapply (part2_spec m K i c arg1 harg1 arg3 harg3 arg4 harg4 arg5 harg5 ha hs hf hw _ h (xin m c) f0) $$ [HO Cb Ab Tb0 Tb1 Tb2 Hf0 Hf1 Hf2 Hx Hy]
    · isplitr; · iexact HR
      isplitr; · iexact Hl
      isplitl [HO]; · iexact HO
      isplitl [Cb]; · iexact Cb
      isplitl [Ab]; · iexact Ab
      isplitl [Tb0]; · iexact Tb0
      isplitl [Tb1]; · iexact Tb1
      isplitl [Tb2]; · iexact Tb2
      unfold colAny
      isplitl [Hf0]; · iexists f1; iexact Hf0
      isplitl [Hf1]; · iexists f1; iexact Hf1
      isplitl [Hf2]; · iexists f1; iexact Hf2
      isplitl [Hx] <;> iassumption
    iintro ⟨HO, Ab, Hn0, Hn1, Hn2, Hx, Hy⟩
    iapply (part3_spec m K i c arg1 harg1 arg3 harg3 arg4 harg4 arg5 harg5 ha hs hf hw _ h f0 f0) $$ [HO Hy Hfc Hn0 Ts0 Tr0]
    · isplitr; · iexact HR
      isplitl [HO]; · iexact HO
      isplitl [Hy]; · iexact Hy
      isplitl [Hfc]; · unfold colAny; iexists f1; iexact Hfc
      isplitl [Hn0]; · iexact Hn0
      isplitl [Ts0] <;> iassumption
    iintro %v ⟨HO, Cs0, Hyc, Hy1, Hy2, Hfc⟩
    iapply (part4_spec m K i c arg1 harg1 arg3 harg3 arg4 harg4 arg5 harg5 ha hs hf hw _ _ _ h) $$ [HO Hy1 Hn1 Ts1 Tr1]
    · isplitr; · iexact HR
      isplitl [Hy1]; · iexact Hy1
      isplitl [Hn1]; · iexact Hn1
      isplitl [HO]; · iexact HO
      isplitl [Ts1] <;> iassumption
    iintro %v' ⟨Cs1, HO⟩
    iapply (part5_spec m K i c arg1 harg1 arg3 harg3 arg4 harg4 arg5 harg5 ha hs hf hw _ _ h) $$ [HO Hy2 Hn2 Ts2 Tr2 Cs0 Cs1 Cr0 Cr1 As0 As1 Ar0 Ar1]
    · isplitr; · iexact HR
      isplitl [Hy2]; · iexact Hy2
      isplitl [Hn2]; · iexact Hn2
      isplitl [HO]; · iexact HO
      isplitl [Ts2]; · iexact Ts2
      isplitl [Tr2]; · iexact Tr2
      isplitl [Cs0]; · iexact Cs0
      isplitl [Cs1]; · iexact Cs1
      isplitl [Cr0]; · iexact Cr0
      isplitl [Cr1]; · iexact Cr1
      isplitl [As0]; · iexact As0
      isplitl [As1]; · iexact As1
      isplitl [Ar0] <;> iassumption
    iintro ⟨HO, Cs2, As0, As1, Ar0, Ar1, Hy0, Hy1, Hf0, Hf1⟩
    iapply (wp_sent m K c 2 (sendQ_of 2 rfl _) (row_credit _)) $$ [Cs2 HO As2]
    · isplitr; · iexact HR
      isplitl [Cs2]; · iexact Cs2
      isplitl [HO] <;> iassumption
    iintro ⟨HO, As2, Hy2⟩
    iapply (wp_received m K c 2 (recvQ_of 2 rfl _) (col_credit' _)) $$ [Cr2 HO Ar2]
    · isplitr; · iexact HR
      isplitl [Cr2]; · iexact Cr2
      isplitl [HO] <;> iassumption
    iintro ⟨HO, Ar2, Hf2⟩
    imod (close m K c none) $$ [Ab] with Ab
    · isplitr; · iexact HR
      iexact Ab
    imod (close m K c (some (false, 0))) $$ [As0] with As0
    · isplitr; · iexact HR
      iexact As0
    imod (close m K c (some (false, 1))) $$ [As1] with As1
    · isplitr; · iexact HR
      iexact As1
    imod (close m K c (some (false, 2))) $$ [As2] with As2
    · isplitr; · iexact HR
      iexact As2
    imod (close m K c (some (true, 0))) $$ [Ar0] with Ar0
    · isplitr; · iexact HR
      iexact Ar0
    imod (close m K c (some (true, 1))) $$ [Ar1] with Ar1
    · isplitr; · iexact HR
      iexact Ar1
    imod (close m K c (some (true, 2))) $$ [Ar2] with Ar2
    · isplitr; · iexact HR
      iexact Ar2
    iapply (tail_spec m c t arg1 arg3 arg4 (xin m c) A B hq (slot_credit _) h8) $$ [Hyc Hy0 Hy1 Hy2 Hfc Hf0 Hf1 Hf2 Ab As0 As1 As2 Ar0 Ar1 Ar2 F0 F1 F2 HO Hx H3 H4]
    · unfold mid closed ins
      rw [h0, ring_start, rows_eq c (xs m c), cols_eq' c (gath m c)]
      isplitl [Hyc Hy0 Hy1 Hy2 Hfc Hf0 Hf1 Hf2 Ab As0 As1 As2 Ar0 Ar1 Ar2 F0 F1 F2]
      · isplitl [Hyc Hy0 Hy1 Hy2]
        · isplitl [Hyc]; · iexact Hyc
          isplitl [Hy0]; · iexact Hy0
          isplitl [Hy1] <;> iassumption
        isplitl [Hfc Hf0 Hf1 Hf2]
        · isplitl [Hfc]; · iexact Hfc
          isplitl [Hf0]; · iexact Hf0
          isplitl [Hf1] <;> iassumption
        isplitl [Ab As0 As1 As2 Ar0 Ar1 Ar2]
        · isplitl [Ab]; · iexact Ab
          isplitl [As0]; · iexact As0
          isplitl [As1]; · iexact As1
          isplitl [As2]; · iexact As2
          isplitl [Ar0]; · iexact Ar0
          isplitl [Ar1] <;> iassumption
        isplitl [F0]; · iexact F0
        isplitl [F1] <;> iassumption
      isplitl [HO]; · iexact HO
      isplitl [Hx]; · iexact Hx
      isplitl [H3] <;> iassumption
    iintro H
    unfold ins
    iapply Hk $$ %_ H
  · rw [dif_neg h]
    simp only [bind_assoc, Prog.bind_op, Prog.bind_ret]
    have h0 : ¬ t.val = 0 := fun h' => h ((cond1_iff i).mpr (hi.trans h'))
    have e1 : (entry m c t.val : sProp 𝕄) = mid m c t.val := if_neg h0
    have e2 : debt c t.val = 0 := if_neg h0
    rw [e1, e2]
    iintro H Hk
    iapply (tail_spec m c t arg1 arg3 arg4 X A B hq (slot_credit _) h8) $$ H
    iintro H
    iapply Hk $$ %_ H

/-- What point `t` writes. -/
def outBlk (c : Dev nD) (t : Fin 16) (A B : S1.Idx → Elt F .f32) : Vec F S1024x512 .f32 := k0_pay4 (wblk m c t) (gath m c) (A i0) (B i0)

include hi in
/-- One point of the body. -/
theorem body_spec (X : Vec F S4096x1024 .f32) (hX : t.val = 0 → X = xin m c) (A B : S1.Idx → Elt F .f32) (Y : Vec F S1024x512 .f32) :
    iprop(entry m c t.val ∗ owesE c (debt c t.val) ∗ ins c arg1 arg3 arg4 X A B ∗ owns (c : Thread nD τ) arg5 fullShare Y)
      ⊢ WP c (cc0_body i arg1 harg1 aM ha arg3 harg3 arg4 harg4 arg5 harg5 xsM hs xfM hf wM hw cc0_scratch3 cc0_scratch4 cc0_scratch5)
        (fun _ => iprop(mid m c (t.val + 1) ∗ owesE c 0 ∗ ins c arg1 arg3 arg4 X A B ∗ owns (c : Thread nD τ) arg5 fullShare (outBlk m c t A B))) := by
  rw [cc0_body_eq_skeleton]
  unfold cc0_body_skel
  iintro ⟨He, HO, Hi, Hy⟩
  iapply (part6_spec m i c t hi arg1 harg1 arg3 harg3 arg4 harg4 arg5 harg5 ha hs hf hw X hX A B) $$ [He HO Hi]
  · isplitl [He]; · iexact He
    isplitl [HO] <;> iassumption
  iintro %v ⟨Hd, HO, Hi⟩
  simp only [Prog.lift, Prog.bind_op, Prog.bind_ret, Prog.pure_eq_ret]
  iapply (wp_loadAll c arg5 Y) $$ Hy
  iintro Hy
  iapply (wp_storeAll c arg5 (outBlk m c t A B) Y) $$ Hy
  iintro Hy
  unfold drained
  icases Hd with ⟨Hxs, Hf, Hcl, HF, Ho⟩
  by_cases h : k0_cond2 i = 1#1
  · rw [dif_pos h]
    have h3 : t.val + 3 < 16 := by rw [← hi]; exact (cond2_iff i).mp h
    iapply (wp_issue m c (slotOf t.val) ⟨t.val + 3, h3⟩
      (blkM_of ⟨t.val + 3, h3⟩ ((k0_off11_eq i).trans (by rw [hi]; show _ = ![0, 512 * (t.val + 3)]; rw [Nat.mul_add])) _)
      (slotM_of (slotOf t.val) ((k0_off10_eq i).trans (by rw [hi]; rfl)) _)
      (wQ_of (slotOf t.val) ((k0_off9_eq i).trans (by rw [hi]; rfl)) _)) $$ HF
    iintro HF
    rw [wp_ret]
    imodintro
    unfold mid
    rw [ring_refilled m c t.val h3]
    isplitl [Hxs Hf Hcl HF Ho]
    · isplitl [Hxs]; · iexact Hxs
      isplitl [Hf]; · iexact Hf
      isplitl [Hcl]; · iexact Hcl
      isplitl [HF] <;> iassumption
    isplitl [HO]; · iexact HO
    isplitl [Hi] <;> iassumption
  · rw [dif_neg h]
    have h3 : 16 ≤ t.val + 3 := by rw [← hi]; exact Nat.not_lt.mp fun h' => h ((cond2_iff i).mpr h')
    rw [wp_ret]
    imodintro
    unfold mid
    rw [ring_drained m c t.val h3]
    isplitl [Hxs Hf Hcl HF Ho]
    · isplitl [Hxs]; · iexact Hxs
      isplitl [Hf]; · iexact Hf
      isplitl [Hcl]; · iexact Hcl
      isplitl [HF] <;> iassumption
    isplitl [HO]; · iexact HO
    isplitl [Hi] <;> iassumption

end Point

end Cert.Exchange

end
-- ==== Proof.Body.lean ====
/-
The proof data of the call, and its body obligation: at each of the sixteen points the body turns what the point is entered
with into what the next is, and leaves its block of the result.
-/
module

public import proofs.«01_k».proof.Proof.Point

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

open Idealize.ShloMosaic.Pipeline (Dat Cfg Window BodyObligation)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)

/-- What is left of `w` once three shares are dealt to the slots. -/
def aRest (c : Dev nD) : sProp 𝕄 := (c : Thread nD τ).loc main_arg1 ↦{shareDrop fullShare 3} V m c main_arg1

/-- A point of the grid as a number below sixteen. -/
abbrev pt (t : Fin cfg0.N) : Fin 16 := t.cast N_0

/-- The result's block at point `t`. -/
def outAt (c : Dev nD) (t : Fin cfg0.N) : Vec F S1024x512 .f32 := outBlk m c (pt t) (iblk m c 1 t) (iblk m c 2 t)

/-- The proof data: arrays at their launch contents, inputs left in place, the result's block computed; the invariant and
the debt by the point. -/
def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := iprop(entry m c t.val ∗ aRest m c)
  q _ := fullShare
  owed t := debt c t.val

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t := by dsimp only [dats]
theorem Φ_eq (c : Dev nD) (t : Fin (cfg0.N + 1)) : (dats m 0 c).Φ t = iprop(entry m c t.val ∗ aRest m c) := by dsimp only [dats]
theorem owed_eq (c : Dev nD) (t : Fin (cfg0.N + 1)) : (dats m 0 c).owed t = debt c t.val := by dsimp only [dats]

/-- Each input's staging buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

theorem entry_succ (c : Dev nD) (t : ℕ) : entry m c (t + 1) = mid m c (t + 1) := if_neg (Nat.succ_ne_zero t)
theorem debt_succ (c : Dev nD) (t : ℕ) : debt c (t + 1) = 0 := if_neg (Nat.succ_ne_zero t)

/-- The point's coordinate is its number. -/
theorem coord_val (t : Fin cfg0.N) : (grid0.coords t 0).val = (pt t).val := by revert t; decide +kernel

/-- At the first point the staged block of `x` is the block the exchange casts. -/
theorem first_x (c : Dev nD) (t : Fin cfg0.N) (h : (pt t).val = 0) : iblk m c 0 t = xin m c := by
  have : t = pt0 := Fin.ext h
  rw [this]; rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at a point, from the invariant and the staged blocks. -/
theorem sound_body (c : Dev nD) (t : Fin cfg0.N) : bodyPre m c t ⊢ WP c (bodyAt0 t) (fun _ => bodyPost m c t) := by
  unfold bodyPre bodyPost bodyAt0
  simp only [before_0, before_1, before_2, after_0, after_1, after_2, after_3, Φ_eq]
  unfold Dat.owesAt Pipeline.owesWithin
  simp only [owed_eq]
  iintro ⟨⟨He, Ha⟩, ⟨%W, %hW, HO⟩, ⟨%d0, H0⟩, ⟨%d1, H1⟩, ⟨%d2, H2⟩, ⟨%d3, H3⟩⟩
  iapply ((body_spec m (grid0.coords t) c (pt t) (coord_val t) _ _ _ _ _ _ _ _ _ _ _ _
    (iblk m c 0 t) (first_x m c t) (iblk m c 1 t) (iblk m c 2 t) ((dats m 0 c).before 3 t d3)).trans (wp_wand frame _ _)) $$ [He HO H0 H1 H2 H3]
  · isplitl [He]; · iexact He
    isplitl [HO]; · unfold owesE; iexists W; iexact HO
    isplitl [H0 H1 H2]
    · unfold ins
      isplitl [H0]; · iexact H0
      isplitl [H1]; · iexact H1
      iexact H2
    iexact H3
  iintro %_ ⟨Hm, HO, Hi, H3⟩
  unfold owesE ins
  icases HO with ⟨%W', HO⟩
  icases Hi with ⟨H0, H1, H2⟩
  isplitl [Hm Ha]
  · isplitl [Hm]
    · rw [show t.succ.val = (pt t).val + 1 from rfl, entry_succ]; iexact Hm
    iexact Ha
  isplitl [HO]
  · rw [show t.succ.val = (pt t).val + 1 from rfl, debt_succ]
    iexists W'
    isplitr; · ipureintro; exact fun _ _ => Or.inl trivial
    iexact HO
  isplitl [H0]; · iexact H0
  isplitl [H1]; · iexact H1
  isplitl [H2]; · iexact H2
  iexact H3

/-- The table's row at the point is the body. -/
theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) : BodyObligation (dats m 0 c) (defs₀ (F := F)) 𝒱₀ () Set.univ := fun t => by
  rw [bigSep_W0, bigSep_W0, defs₀_row]
  exact triple_restated (sound_body m c t) rfl .rfl fun _ => .rfl

end Cert.Exchange

end
-- ==== Proof.Launch.lean ====
/-
The launch of the exchange: the ghost resources of the cells minted, the schedule of every cell put in place of its
semaphore, the tokens dealt to the devices that pay them, and the credit of what is owed.
-/
module

public import proofs.«01_k».proof.Proof.Body

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

open Idealize.ShloMosaic.Pipeline (Dat Cfg Window BodyObligation)
open Idealize.ShloMosaic.Transfers (shareTok shareDrop)

/-- The kernel's own nine semaphores: send, receive, and the slots'. -/
abbrev osem : Fin 9 → SemLoc sig := ![.dma (sendQ 0), .dma (sendQ 1), .dma (sendQ 2), .dma (recvQ 0), .dma (recvQ 1), .dma (recvQ 2), .dma (wQ 0), .dma (wQ 1), .dma (wQ 2)]
theorem ownSemFacts : Pipeline.OwnSemFacts cfg0.spec osem := by decide

/-! ## The cells and tokens of the launch -/

theorem kcell_injective : Function.Injective (kcell : Dev nD × Ci → GSem nD τ sig) := by
  rintro ⟨c, s⟩ ⟨c', s'⟩ h
  have h1 : c = c' := congrArg (fun g : GSem nD τ sig => g.1.1) h
  have h2 : csem s = csem s' := congrArg Prod.snd h
  have h3 : ∀ s s' : Ci, csem s = csem s' → s = s' := by decide
  rw [h1, h3 s s' h2]
def allCells : Finset (GSem nD τ sig) := Finset.univ.map ⟨kcell, kcell_injective⟩

/-- The tokens of a device's own cells: its barrier's three, one for each send cell, one for each receive cell. -/
abbrev tokSem (j : Fin 3 × Fin 3) : SemLoc sig := match j.1 with
  | 0 => .reg barS | 1 => .dma (sendQ j.2) | 2 => .dma (recvQ j.2)
abbrev tokDuty (j : Fin 3 × Fin 3) : Fin 3 := match j.1 with
  | 0 => j.2 | 1 => 0 | 2 => 0
abbrev tokOf (p : Dev nD × (Fin 3 × Fin 3)) : GSem nD τ sig × ℕ × Fin 3 := (((p.1 : Thread nD τ), tokSem p.2), 0, tokDuty p.2)
theorem tokOf_injective : Function.Injective (tokOf : Dev nD × (Fin 3 × Fin 3) → GSem nD τ sig × ℕ × Fin 3) := by
  rintro ⟨c, j⟩ ⟨c', j'⟩ h
  have h1 : c = c' := congrArg (fun x : GSem nD τ sig × ℕ × Fin 3 => x.1.1.1) h
  have h2 : tokSem j = tokSem j' := congrArg (fun x : GSem nD τ sig × ℕ × Fin 3 => x.1.2) h
  have h3 : tokDuty j = tokDuty j' := congrArg (fun x : GSem nD τ sig × ℕ × Fin 3 => x.2.2) h
  have h4 : ∀ j j' : Fin 3 × Fin 3, tokSem j = tokSem j' → tokDuty j = tokDuty j' → j = j' := by decide
  rw [h1, h4 j j' h2 h3]
def allToks : Finset (GSem nD τ sig × ℕ × Fin 3) := Finset.univ.map ⟨tokOf, tokOf_injective⟩

/-- The launch's ghost element. -/
def u₀ : UU :=
  (initOf (Pipeline.cells cfgs cellOf_inj) (Pipeline.launchToks cfgs cellOf_inj), (initOf allCells allToks, 1))

/-! ## What each device is dealt -/

/-- The tokens of device `c`'s own cells. -/
def toks (c : Dev nD) : sProp 𝕄 :=
  iprop((dutyTok ER (barCell c) 0 0 ∗ dutyTok ER (barCell c) 0 1 ∗ dutyTok ER (barCell c) 0 2)
    ∗ (dutyTok ER (sendCell c 0) 0 0 ∗ dutyTok ER (sendCell c 1) 0 0 ∗ dutyTok ER (sendCell c 2) 0 0)
    ∗ (dutyTok ER (recvCell c 0) 0 0 ∗ dutyTok ER (recvCell c 1) 0 0 ∗ dutyTok ER (recvCell c 2) 0 0))
/-- The tokens of the duties device `c` pays. -/
def payToks (c : Dev nD) : sProp 𝕄 :=
  iprop((dutyTok ER (barCell (nx c 0)) 0 0 ∗ dutyTok ER (barCell (nx c 1)) 0 1 ∗ dutyTok ER (barCell (nx c 2)) 0 2)
    ∗ (dutyTok ER (sendCell c 0) 0 0 ∗ dutyTok ER (sendCell c 1) 0 0 ∗ dutyTok ER (sendCell c 2) 0 0)
    ∗ (dutyTok ER (recvCell (nx c 0) 0) 0 0 ∗ dutyTok ER (recvCell (nx c 1) 1) 0 0 ∗ dutyTok ER (recvCell (nx c 2) 2) 0 0))
/-- Its positions on its own cells. -/
def poss (c : Dev nD) : sProp 𝕄 :=
  iprop(atPos ER (barCell c) 0 ∅ 0 ∗ atPos ER (sendCell c 0) 0 ∅ 0 ∗ atPos ER (sendCell c 1) 0 ∅ 0 ∗ atPos ER (sendCell c 2) 0 ∅ 0
      ∗ atPos ER (recvCell c 0) 0 ∅ 0 ∗ atPos ER (recvCell c 1) 0 ∅ 0 ∗ atPos ER (recvCell c 2) 0 ∅ 0)
/-- The slots' semaphores. -/
def wsems (c : Dev nD) : sProp 𝕄 :=
  iprop(semVal ((c : Thread nD τ), .dma (wQ 0)) 0 ∗ semVal ((c : Thread nD τ), .dma (wQ 1)) 0 ∗ semVal ((c : Thread nD τ), .dma (wQ 2)) 0)

/-- What the launch element deals device `c`. -/
def G (c : Dev nD) : sProp 𝕄 :=
  iprop((bigSep Finset.univ fun s : Ci => roundState ER (sched m) (kcell (c, s)) 0)
    ∗ (bigSep Finset.univ fun s : Ci => iprop(atPos ER (kcell (c, s)) 0 ∅ 0 ∗ reached ER (kcell (c, s)) 0)) ∗ toks c)
/-- What stays with device `c` when every cell is in place. -/
def G' (c : Dev nD) : sProp 𝕄 := iprop(∃ K, records m K ∗ poss c ∗ payToks c ∗ wsems c)

theorem bigSep_Ci (Φ : Ci → sProp 𝕄) : bigSep Finset.univ Φ
    = iprop(Φ none ∗ Φ (some (false, 0)) ∗ Φ (some (false, 1)) ∗ Φ (some (false, 2)) ∗ Φ (some (true, 0)) ∗ Φ (some (true, 1)) ∗ Φ (some (true, 2))) :=
  bigSep_univ_eq_bigSepL [none, some (false, 0), some (false, 1), some (false, 2), some (true, 0), some (true, 1), some (true, 2)] (by decide) (by decide) Φ
theorem bigSep_tk (Φ : Fin 3 × Fin 3 → sProp 𝕄) : bigSep Finset.univ Φ
    = iprop((Φ (0, 0) ∗ Φ (0, 1) ∗ Φ (0, 2)) ∗ (Φ (1, 0) ∗ Φ (1, 1) ∗ Φ (1, 2)) ∗ (Φ (2, 0) ∗ Φ (2, 1) ∗ Φ (2, 2))) := by
  have h3 : ∀ Ψ : Fin 3 → sProp 𝕄, bigSep Finset.univ Ψ = iprop(Ψ 0 ∗ Ψ 1 ∗ Ψ 2) := bigSep_univ_eq_bigSepL [0, 1, 2] (by decide) (by decide)
  rw [bigSep_univ_prod, h3, h3, h3, h3]

/-- The minted element deals every device its part. -/
theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun s : Ci => Φ (kcell (c, s)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_tk]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells put in place -/

theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (recvCell c 0) 0 ∗ semVal (recvCell c 1) 0 ∗ semVal (recvCell c 2) 0
      ∗ wsems c) := by
  rw [Pipeline.ownSems0_eq_of_list c osem [0, 1, 2, 3, 4, 5, 6, 7, 8] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun s : Ci => semVal (kcell (c, s)) 0) ∗ wsems c) : sProp 𝕄) := by
  rw [ownSems0_eq, unscopedSems0_eq, bigSep_Ci]
  iintro ⟨⟨H0, H1, H2, H3, H4, H5, HW⟩, HB⟩
  isplitr [HW]
  · isplitl [HB]; · iexact HB
    isplitl [H0]; · iexact H0
    isplitl [H1]; · iexact H1
    isplitl [H2]; · iexact H2
    isplitl [H3]; · iexact H3
    isplitl [H4]; · iexact H4
    iexact H5
  iexact HW

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun s : Ci => iprop(∃ κ : ℕ, cellInv ER (sched m) κ (kcell (c, s))))
          ∗ (bigSep Finset.univ fun s : Ci => iprop(atPos ER (kcell (c, s)) 0 ∅ 0 ∗ reached ER (kcell (c, s)) 0)) ∗ iprop(toks c ∗ wsems c)) := by
  unfold G
  iintro ⟨Hos, Hus, Hst, Hat, Htok⟩
  ihave Hv := (sems0_eq (F := F) c) $$ [Hos Hus]
  · isplitl [Hos] <;> iassumption
  icases Hv with ⟨Hv, HW⟩
  imod (show iprop((bigSep Finset.univ fun s : Ci => semVal (kcell (c, s)) 0) ∗ bigSep Finset.univ fun s : Ci => roundState ER (sched m) (kcell (c, s)) 0)
      ⊢ (|={Set.univ}=> bigSep Finset.univ fun s => iprop(∃ κ : ℕ, cellInv ER (sched m) κ (kcell (c, s))) : sProp 𝕄) from by
        rw [← bigSep_sep']
        exact (bigSep_mono fun s _ => (Rounds.body_intro ER (sched m) (kcell (c, s))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- The tokens go round to the devices that pay them. -/
theorem toks_around : (bigSep Finset.univ fun c : Dev nD => (toks c : sProp 𝕄)) = bigSep Finset.univ fun c : Dev nD => payToks c := by
  unfold toks payToks
  simp only [bigSep_sep']
  rw [bigSep_univ_equiv (ring 0) (fun c : Dev nD => (dutyTok ER (barCell c) 0 0 : sProp 𝕄)),
    bigSep_univ_equiv (ring 1) (fun c : Dev nD => (dutyTok ER (barCell c) 0 1 : sProp 𝕄)),
    bigSep_univ_equiv (ring 2) (fun c : Dev nD => (dutyTok ER (barCell c) 0 2 : sProp 𝕄)),
    bigSep_univ_equiv (ring 0) (fun c : Dev nD => (dutyTok ER (recvCell c 0) 0 0 : sProp 𝕄)),
    bigSep_univ_equiv (ring 1) (fun c : Dev nD => (dutyTok ER (recvCell c 1) 0 0 : sProp 𝕄)),
    bigSep_univ_equiv (ring 2) (fun c : Dev nD => (dutyTok ER (recvCell c 2) 0 0 : sProp 𝕄))]
  rfl

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem poss_eq (c : Dev nD) : (bigSep Finset.univ fun s : Ci => (atPos ER (kcell (c, s)) 0 ∅ 0 : sProp 𝕄)) = poss c := by
  unfold poss; rw [bigSep_Ci]

/-- With every device's cells in place, their names are agreed on and each device has what it starts from. -/
theorem regroup :
    (bigSep Finset.univ fun c : Dev nD => iprop((bigSep Finset.univ fun s : Ci => iprop(∃ κ : ℕ, cellInv ER (sched m) κ (kcell (c, s))))
          ∗ (bigSep Finset.univ fun s : Ci => iprop(atPos ER (kcell (c, s)) 0 ∅ 0 ∗ reached ER (kcell (c, s)) 0)) ∗ iprop(toks c ∗ wsems c)) : sProp 𝕄)
      ⊢ bigSep Finset.univ (G' m) := by
  rw [bigSep_sep', bigSep_sep', ← bigSep_univ_prod (fun p : Dev nD × Ci => iprop(∃ κ : ℕ, cellInv ER (sched m) κ (kcell p))),
    bigSep_congr (s := Finset.univ) (fun (c : Dev nD) _ => bigSep_sep' Finset.univ (fun s : Ci => (atPos ER (kcell (c, s)) 0 ∅ 0 : sProp 𝕄)) (fun s => reached ER (kcell (c, s)) 0)),
    bigSep_sep', ← bigSep_univ_prod (fun p : Dev nD × Ci => (reached ER (kcell p) 0 : sProp 𝕄)), bigSep_sep', toks_around]
  iintro ⟨HI, ⟨Hat, #HR⟩, Htok, HW⟩
  ihave HK := (BI.bigSep_exists_pi Finset.univ (fun (p : Dev nD × Ci) (κ : ℕ) => (cellInv ER (sched m) κ (kcell p) : sProp 𝕄))) $$ HI
  icases HK with ⟨%K, #HI⟩
  iapply (with_persistent (R := records m K) (Φ := fun c => iprop(poss c ∗ payToks c ∗ wsems c)) fun c _ => show _ ⊢ G' m c from by
    unfold G'; iintro H; iexists K; iexact H)
  isplitr
  · unfold records; isplitl; · iexact HI
    iexact HR
  · rw [bigSep_sep', bigSep_sep']
    isplitl [Hat]
    · have hp : (bigSep Finset.univ fun c : Dev nD => bigSep Finset.univ fun s : Ci => (atPos ER (kcell (c, s)) 0 ∅ 0 : sProp 𝕄)) ⊢ bigSep Finset.univ poss :=
        bigSep_mono fun c _ => Entails.of_eq (poss_eq c)
      iapply hp $$ Hat
    isplitl [Htok] <;> iassumption

/-- The launch's step over all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

/-- A unit from each of the three others on the barrier; a copy's worth on each receive cell. -/
theorem creds (c : Dev nD) : (Pipeline.launchCred O₀ c : sProp 𝕄)
    ⊢ iprop(cred (tallyAt (barCell c) () 3) ∗ cred (tallyAt (recvCell c 0) () N) ∗ cred (tallyAt (recvCell c 1) () N) ∗ cred (tallyAt (recvCell c 2) () N)) := by
  have hb (k : Fin 3) : (Pipeline.launchCred (fun d => tallyAt (barCell (nx d k)) () 1) c : sProp 𝕄) ⊢ cred (tallyAt (barCell c) () 1) :=
    Pipeline.launchCred_tallyAt (.reg barS) (nx · k) (fr · k) (fun c => nx_fr c k) (fun c => fr_nx c k) () 1 c
  have hr (k : Fin 3) : (Pipeline.launchCred (fun d => tallyAt (recvCell (nx d k) k) () N) c : sProp 𝕄) ⊢ cred (tallyAt (recvCell c k) () N) :=
    Pipeline.launchCred_tallyAt (.dma (recvQ k)) (nx · k) (fr · k) (fun c => nx_fr c k) (fun c => fr_nx c k) () N c
  rw [show (O₀ : Dev nD → CellTallies nD τ sig Unit) = fun d => (((((0 + tallyAt (recvCell (nx d 2) 2) () N) + tallyAt (recvCell (nx d 1) 1) () N) + tallyAt (recvCell (nx d 0) 0) () N)
      + tallyAt (barCell (nx d 2)) () 1) + tallyAt (barCell (nx d 1)) () 1) + tallyAt (barCell (nx d 0)) () 1 from rfl]
  rw [Pipeline.launchCred_add, Pipeline.launchCred_add, Pipeline.launchCred_add, Pipeline.launchCred_add, Pipeline.launchCred_add, Pipeline.launchCred_add]
  iintro ⟨⟨⟨⟨⟨⟨-, R2⟩, R1⟩, R0⟩, B2⟩, B1⟩, B0⟩
  ihave B0 := (hb 0) $$ B0
  ihave B1 := (hb 1) $$ B1
  ihave B2 := (hb 2) $$ B2
  ihave R0 := (hr 0) $$ R0
  ihave R1 := (hr 1) $$ R1
  ihave R2 := (hr 2) $$ R2
  isplitl [B0 B1 B2]
  · rw [show (tallyAt (barCell c) () 3 : CellTallies nD τ sig Unit) = tallyAt (barCell c) () 1 + (tallyAt (barCell c) () 1 + tallyAt (barCell c) () 1) from by
      rw [tallyAt_add, tallyAt_add]]
    iapply (cred_add _ _).2
    isplitl [B0]; · iexact B0
    iapply (cred_add _ _).2
    isplitl [B1] <;> iassumption
  isplitl [R0]; · iexact R0
  isplitl [R1] <;> iassumption

end Cert.Exchange

end
-- ==== Proof.Run.lean ====
/-
The run: every fair execution of the call ends, with the arrays as the proof data say and every semaphore at zero.
-/
module

public import proofs.«01_k».proof.Proof.Launch
public import Idealize.ShloMosaic.Lib.Pipeline.CollectiveSegs

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

open Idealize.ShloMosaic.Pipeline (Dat Cfg Window BodyObligation)
open Idealize.ShloMosaic.Transfers (shareTok shareDrop)

variable (ρ : Dev nD → PrngReg)

/-- What device `c` starts from, its scratch buffers aside. -/
def start (c : Dev nD) : sProp 𝕄 :=
  iprop((∃ K, cells m K c) ∗ wsems c ∗ (c : Thread nD τ).loc main_arg1 ↦{fullShare} V m c main_arg1)
/-- What it ends with that no window covers. -/
def left (c : Dev nD) : sProp 𝕄 :=
  iprop(unscopedSems0 c ∗ (c : Thread nD τ).loc main_arg1 ↦{fullShare} V m c main_arg1)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Ha, Hlev, Hcr, -, HG⟩
  ihave Hc := (creds (F := F) c) $$ Hcr
  unfold G'
  icases HG with ⟨%K, HR, HP, HT, HW⟩
  imodintro
  unfold start
  isplitl
  · isplitr [HW Ha]
    · iexists K
      unfold cells
      unfold poss payToks
      icases HT with ⟨HT1, HT2, HT3⟩
      isplitl [HR]; · iexact HR
      isplitl [Hlev]; · iexact Hlev
      isplitl [Hc]; · iexact Hc
      isplitl [HP]; · iexact HP
      isplitl [HT1]; · iexact HT1
      isplitl [HT2] <;> iassumption
    isplitl [HW] <;> iassumption
  · iempintro

theorem bigSep_three (Φ : Fin 3 → sProp 𝕄) : bigSep Finset.univ Φ = iprop(Φ 0 ∗ Φ 1 ∗ Φ 2) := bigSep_univ_eq_bigSepL [0, 1, 2] (by decide) (by decide) Φ

/-- The ring buffer and `w` dealt to the slots. -/
theorem deal (c : Dev nD) (f : Buf (Elt F) ((c : Thread nD τ).loc cc0_scratch2)) :
    iprop(wsems c ∗ ((c : Thread nD τ).loc main_arg1 ↦{fullShare} V m c main_arg1) ∗ (c : Thread nD τ).loc cc0_scratch2 ↦{fullShare} f)
      ⊢ (iprop((free m c 0 ∗ free m c 1 ∗ free m c 2) ∗ aRest m c) : sProp 𝕄) := by
  rw [slots_eq, bigSep_three]
  unfold wsems
  iintro ⟨⟨W0, W1, W2⟩, Ha, S0, S1, S2⟩
  ihave Ha := (Transfers.pointsTo_toks_split (ℓ := (c : Thread nD τ).loc main_arg1) (f := V m c main_arg1) fullShare 3) $$ Ha
  icases Ha with ⟨HD, HT⟩
  ihave HT := (Entails.of_eq (bigSep_three (F := F) _)) $$ HT
  icases HT with ⟨A0, A1, A2⟩
  unfold free aTok aRest
  isplitr [HD]
  · isplitl [W0 S0 A0]
    · isplitl [W0]; · iexact W0
      isplitl [S0]; · iexists f; iexact S0
      iexact A0
    isplitl [W1 S1 A1]
    · isplitl [W1]; · iexact W1
      isplitl [S1]; · iexists f; iexact S1
      iexact A1
    · isplitl [W2]; · iexact W2
      isplitl [S2]; · iexists f; iexact S2
      iexact A2
  iexact HD

/-- And gathered from them. -/
theorem undeal (c : Dev nD) :
    (iprop((free m c 0 ∗ free m c 1 ∗ free m c 2) ∗ aRest m c) : sProp 𝕄)
      ⊢ iprop(wsems c ∗ ((c : Thread nD τ).loc main_arg1 ↦{fullShare} V m c main_arg1)
        ∗ ∃ f : Buf (Elt F) ((c : Thread nD τ).loc cc0_scratch2), (c : Thread nD τ).loc cc0_scratch2 ↦{fullShare} f) := by
  unfold free aTok aRest wsems
  iintro ⟨⟨⟨W0, S0, A0⟩, ⟨W1, S1, A1⟩, ⟨W2, S2, A2⟩⟩, HD⟩
  isplitl [W0 W1 W2]
  · isplitl [W0]; · iexact W0
    isplitl [W1] <;> iassumption
  isplitl [A0 A1 A2 HD]
  · iapply (Transfers.pointsTo_toks_join (ℓ := (c : Thread nD τ).loc main_arg1) (f := V m c main_arg1) fullShare 3)
    isplitl [HD]; · iexact HD
    iapply (Entails.of_eq (bigSep_three (F := F) _).symm)
    isplitl [A0]; · iexact A0
    isplitl [A1] <;> iassumption
  iapply (slots_join c)
  iapply (Entails.of_eq (bigSep_three (F := F) _).symm)
  isplitl [S0]; · iexact S0
  isplitl [S1] <;> iassumption

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(entry m c 0 ∗ aRest m c) from Φ_eq m c 0, scopedRest0_eq]
  rw [show entry m c 0 = iprop((∃ K, cells m K c) ∗ bufs m c) from if_pos rfl]
  unfold start bufs
  iintro ⟨⟨HK, HW, Ha⟩, -, H0, H1, ⟨%f, H2⟩⟩
  ihave Hd := (deal m c f) $$ [HW Ha H2]
  · isplitl [HW]; · iexact HW
    isplitl [Ha] <;> iassumption
  icases Hd with ⟨HF, HD⟩
  isplitr [HD]
  · isplitl [HK]; · iexact HK
    isplitl [H0]; · iexact H0
    isplitl [H1] <;> iassumption
  iexact HD

theorem phi_exit (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = iprop(entry m c 16 ∗ aRest m c) from Φ_eq m c _, scopedRest0_eq, ownSems0_eq]
  rw [show entry m c 16 = mid m c 16 from entry_succ m c 15]
  unfold mid left
  rw [ring_end, bigSep_three, unscopedSems0_eq]
  unfold closed
  iintro ⟨⟨Hxs, Hf, ⟨Hb, H0, H1, H2, H3, H4, H5⟩, Hr⟩, HD⟩
  ihave Hu := (undeal m c) $$ [Hr HD]
  · isplitl [Hr] <;> iassumption
  icases Hu with ⟨HW, Ha, Hs⟩
  isplitl [Hb Ha]
  · isplitl [Hb] <;> iassumption
  isplitl [H0 H1 H2 H3 H4 H5 HW]
  · isplitl [H0]; · iexact H0
    isplitl [H1]; · iexact H1
    isplitl [H2]; · iexact H2
    isplitl [H3]; · iexact H3
    isplitl [H4]; · iexact H4
    isplitl [H5] <;> iassumption
  isplitl [Hxs]; · iexists _; iexact Hxs
  isplitl [Hf]; · iexists _; iexact Hf
  iexact Hs

theorem share_eq (c : Dev nD) (w : Fin cfg0.W) : (dats m 0 c).share w = fullShare := by unfold Dat.share; split <;> rfl

theorem lv_other (c : Dev nD) (sm : SemLoc sig) (h : role sm = .other) : lv ((c : Thread nD τ), sm) () = 0 := by unfold lv; rw [h]

/-- The pipeline's own waits are below what is owed. -/
theorem waits (c : Dev nD) : (levAts L lv : sProp 𝕄) ⊢ Pipeline.cellsWaits cfgs (dats m) () 0 c :=
  Pipeline.cellsWaits_intro cfgs (dats m) () 0 c fun w s t => by
    rw [owed_eq]
    unfold debt
    split
    · exact mayWait_low c _ (lv_other c _ (by fin_cases w <;> fin_cases s <;> decide))
    · rw [MayWait_zero]; iintro -; iempintro

/-- Each array after the run. -/
def finalA (c : Dev nD) (w : Fin cfg0.W) : Buf (Elt F) ((cfg0.win w).arr.view.loc (c : Thread nD τ)) := (dats m 0 c).arrAt w cfg0.N

def Ends : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg1) = m ((c : Thread nD τ).loc main_arg1)

/-- At any values, from any memory with the semaphores at zero, every fair execution on the four devices ends; the arrays
are then as the proof data say, `w` is unchanged and every semaphore is at zero. -/
theorem run_main : θ_run defs (onTc (τ := τ) (main (F := F))) (s₀ m ρ) (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (fund m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := phi0_intro m) (hout := phi_exit m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      unfold left
      iintro ⟨⟨Hu, Ha⟩, -, HSI⟩
      icombine HSI Ha gives %h
      imod (Pipeline.unscopedSems0_read (X := unscopedSems0 c) (c := c) fupd_intro s') $$ [Hu HSI] with ⟨%hs, HSI⟩
      · isplitl [Hu] <;> iassumption
      imodintro
      isplitr
      · ipureintro; exact ⟨hs, Buf.eq_of_forall_mem_univ h⟩
      iexact HSI)
    (hQ := fun _ h hs => ⟨fun c => ⟨(h c).1, (h c).2.2.2⟩, sem_eq_zero hs fun c => (h c).2.2.1⟩)

end Cert.Exchange

end
-- ==== Proof.Value.lean ====
/-
The mathematics both programs compute: a product of matrices, scaled, gated; the block the body computes at a point
and the array the reference ends with are read at their coordinates, over the ideal numbers.
-/
module

public import proofs.«01_k».proof.Proof.Run
public import proofs.«01_k».proof.Proof.Gen.ReferenceIdeal.Run
public import Idealize.ShloMosaic.Lib.Pointwise

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A scaled product `y` gated: `y / (1 + exp (-(y kept between -60 and 60)))`. The two bounds are the words the programs print. -/
def gate (y : Elt Ideal .f32) : Elt Ideal .f32 :=
  Ideal.div y (1 + Ideal.exp (-(min (Ideal.ofBits .f32 0x42700000#32) (max (Ideal.ofBits .f32 0xC2700000#32) y))))

/-- Row `i` of `X` against column `j` of `W`, scaled by the product of the two scales, gated. -/
def entryAt (X : Vec Ideal Cert.ReferenceIdeal.S4096x4096 .f32) (W : Vec Ideal S4096x8192 .f32) (A B : Vec Ideal S1 .f32)
    (i : Fin 4096) (j : Fin 8192) : Elt Ideal .f32 :=
  gate ((∑ k : Fin 4096, X (ix2 i k) * W (ix2 k j)) * (A i0 * B i0))

/-- The result. -/
def result (X : Vec Ideal Cert.ReferenceIdeal.S4096x4096 .f32) (W : Vec Ideal S4096x8192 .f32) (A B : Vec Ideal S1 .f32) :
    Vec Ideal S4096x8192 .f32 := fun i => entryAt X W A B (i 0) (i 1)

/-- The block the body computes from a block of `w` and the rows of `x` it holds, at row `p` and column `q`. -/
theorem pay4_at (v14 : Vec Ideal S1x4096x512 .f32) (v17 : Vec Ideal S1024x4096 .fp8e4m3) (a b : Elt Ideal .f32) (p : Fin 1024) (q : Fin 512) :
    k0_pay4 v14 v17 a b (ix2 p q) = gate ((∑ k : Fin 4096, v17 (ix2 p k) * v14 (ix3 0 k q)) * (a * b)) := by
  pointwise [k0_pay4]
  unfold gate
  rw [zero_sub]

/-- The reference's run: its result is `result` of its arguments, which are unchanged. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r =>
      ∀ c : Dev Cert.ReferenceIdeal.nD,
        r.2.mem (c.tc.loc Cert.ReferenceIdeal.main_v10) = result (m (c.tc.loc Cert.ReferenceIdeal.main_arg0)) (m (c.tc.loc Cert.ReferenceIdeal.main_arg1))
          (m (c.tc.loc Cert.ReferenceIdeal.main_arg2)) (m (c.tc.loc Cert.ReferenceIdeal.main_arg3))
        ∧ r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1)
        ∧ r.2.mem (c.tc.loc Cert.ReferenceIdeal.main_arg2) = m (c.tc.loc Cert.ReferenceIdeal.main_arg2)
        ∧ r.2.mem (c.tc.loc Cert.ReferenceIdeal.main_arg3) = m (c.tc.loc Cert.ReferenceIdeal.main_arg3) := by
  refine (θ_run Cert.ReferenceIdeal.defs _ _).mono (fun r h c => ⟨(h c).1.trans ?_, (h c).2⟩) (Cert.ReferenceIdeal.Value.run (F := Ideal) m ρ)
  generalize m (c.tc.loc Cert.ReferenceIdeal.main_arg0) = X
  generalize m (c.tc.loc Cert.ReferenceIdeal.main_arg1) = W
  generalize m (c.tc.loc Cert.ReferenceIdeal.main_arg2) = A
  generalize m (c.tc.loc Cert.ReferenceIdeal.main_arg3) = B
  funext j
  idx_vars j
  pointwise [result, entryAt, gate]
  rw [show (ix1 0 : Cert.ReferenceIdeal.S1.Idx) = i0 from eq_i0 _]
  rfl

end Cert.Exchange

end
-- ==== Proof.Frames.lean ====
/-
The three frames: each program runs to the end with its arguments unchanged and its semaphores at zero.
-/
module

public import proofs.«01_k».proof.Proof.Run
public import proofs.«01_k».proof.Proof.Gen.Kernel
public import proofs.«01_k».proof.Proof.Gen.ReferenceIdeal.Run
public import proofs.«01_k».proof.Defs

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

open Idealize.ShloMosaic.Pipeline (Dat)

/-- After the run, an input window's array is as launched. -/
theorem final_0 (c : Dev nD) : finalA m c 0 = m ((c : Thread nD τ).loc main_arg0) := ((dats m 0 c).arrAt_in 0 rfl _).trans (A_eq m c 0)
theorem final_1 (c : Dev nD) : finalA m c 1 = m ((c : Thread nD τ).loc main_arg2) := ((dats m 0 c).arrAt_in 1 rfl _).trans (A_eq m c 1)
theorem final_2 (c : Dev nD) : finalA m c 2 = m ((c : Thread nD τ).loc main_arg3) := ((dats m 0 c).arrAt_in 2 rfl _).trans (A_eq m c 2)

/-- The run, read at the program's five arrays: the result at what its window ends with, the arguments unchanged. -/
theorem run_arrays (ρ : Dev nD → PrngReg) :
    θ_run defs (onTc (τ := τ) (main (F := F))) ⟨m, fun _ => 0, ρ⟩ fun r =>
      (∀ c : Dev nD, r.2.mem ((c : Thread nD τ).loc main_v1) = finalA m c 3
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3))
      ∧ r.2.sem = fun _ => 0 :=
  (θ_run defs _ _).mono (fun r h => ⟨fun c => ⟨(h.1 c).1 3, ((h.1 c).1 0).trans (final_0 m c), (h.1 c).2,
    ((h.1 c).1 1).trans (final_1 m c), ((h.1 c).1 2).trans (final_2 m c)⟩, h.2⟩) (run_main m ρ)

/-- Of that, what a frame says. -/
theorem run_args (ρ : Dev nD → PrngReg) :
    θ_run defs (onTc (τ := τ) (main (F := F))) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3))
      ∧ r.2.sem = fun _ => 0 :=
  (θ_run defs _ _).mono (fun r h => ⟨fun c => (h.1 c).2, h.2⟩) (run_arrays m ρ)

/-- The program at the ideal numbers. -/
theorem frame_ideal : Cert.quiescent_KernelIdeal := fun m ρ _ => run_args (F := Ideal) m ρ

/-- The reference. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The program at machine words and the program at the ideal numbers print the same text: the same body at each label, -/
theorem same_bodies : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) => rfl
/-- the same table with the pipeline's labels, -/
theorem same_defs : Cert.Kernel.defs (F := F) = Cert.KernelIdeal.defs (F := F) := by
  unfold Cert.Kernel.defs Cert.KernelIdeal.defs
  exact congrArg (Idealize.ShloMosaic.Pipeline.defs _) same_bodies
/-- the same main program. -/
theorem same_main : Cert.Kernel.main (F := F) = Cert.KernelIdeal.main (F := F) := rfl

/-- The program at machine words. -/
theorem frame_kernel : Cert.quiescent_Kernel := fun m ρ _ => by
  rw [same_defs, same_main]
  exact run_args (F := Bits) m ρ

end Cert.Exchange

end
-- ==== Proof.Equation.lean ====
/-
What the kernel ends with: each device holds its block of rows of the mathematical result, when its argument is its block
of columns of the whole x.
-/
module

public import proofs.«01_k».proof.Proof.Value
public import proofs.«01_k».proof.Proof.Frames
public import Idealize.ShloMosaic.Lib.Pipeline.ValueKit.Geometry

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

open Idealize.ShloMosaic.Pipeline (Dat)

/-! ## The arguments, at coordinates -/

theorem index_0 : win0_0.index pt0 = ![0, 0] := by decide +kernel
theorem index_3 : ∀ t : Fin cfg0.N, win0_3.index t = ![0, (pt t).val] := by decide +kernel

/-- The staged block of `x` is the device's whole argument. -/
theorem xin_eq (c : Dev nD) : xin m c = m ((c : Thread nD τ).loc main_arg0) := by
  funext j
  show V m c main_arg0 ((win0_0.blk pt0).view.emb j) = V m c main_arg0 j
  refine congrArg _ ?_
  blk_ext [index_0]

/-- The staged scales are the device's arguments. -/
theorem scale_1 (c : Dev nD) (t : Fin cfg0.N) : iblk m c 1 t i0 = m ((c : Thread nD τ).loc main_arg2) i0 :=
  congrArg (m ((c : Thread nD τ).loc main_arg2)) (eq_i0 ((win0_1.blk t).view.emb i0))
theorem scale_2 (c : Dev nD) (t : Fin cfg0.N) : iblk m c 2 t i0 = m ((c : Thread nD τ).loc main_arg3) i0 :=
  congrArg (m ((c : Thread nD τ).loc main_arg3)) (eq_i0 ((win0_2.blk t).view.emb i0))

/-- Column `q` of block `b` of `w` is column `512 b + q` of `w`. -/
theorem wblk_at (c : Dev nD) (b : Fin 16) (k : Fin 4096) (q : Fin 512) (h : 512 * b.val + q.val < 8192) :
    wblk m c b (ix3 0 k q) = m ((c : Thread nD τ).loc main_arg1) (ix2 k ⟨512 * b.val + q.val, h⟩) := by
  show m ((c : Thread nD τ).loc main_arg1) ((blkR b).emb (ValueIdx.ix2 k q)) = _
  refine congrArg _ (funext fun a => Fin.ext ?_)
  revert a
  refine Fin.forall_fin_two.mpr ⟨?_, ?_⟩
  · exact (ValueKit.rect_emb_unit_val (s := S4096x8192) ![0, 512 * b.val] _ _ (ValueIdx.ix2 k q) 0).trans (Nat.zero_add _)
  · exact ValueKit.rect_emb_unit_val (s := S4096x8192) ![0, 512 * b.val] _ _ (ValueIdx.ix2 k q) 1

/-- At the ideal numbers the send buffer holds the device's argument. -/
theorem xs_eq (m : (ℓ : Loc nD τ sig) → Buf (Elt Ideal) ℓ) (c : Dev nD) : xs m c = m ((c : Thread nD τ).loc main_arg0) := by
  refine Eq.trans (funext fun j => ?_) (xin_eq m c)
  idx_vars j
  pointwise [xs, k0_pay1, k0_pay2]

/-- A full receive buffer holds the device's rows of the whole `x`. -/
theorem gath_at (m : (ℓ : Loc nD τ sig) → Buf (Elt Ideal) ℓ) (X : Vec Ideal Cert.ReferenceIdeal.S4096x4096 .f32)
    (hX : ∀ d : Dev nD, m ((d : Thread nD τ).loc main_arg0) = Layout.block ⟨2, ![4096, 1024]⟩ ⟨2, ![4096, 4096]⟩ 1 4 d X)
    (c : Dev nD) (p : Fin 1024) (k : Fin 4096) (h : 1024 * c.val + p.val < 4096) :
    gath m c (ix2 p k) = X (ix2 ⟨1024 * c.val + p.val, h⟩ k) := by
  unfold gath
  rw [xs_eq, hX]
  refine congrArg X (funext fun a => Fin.ext ?_)
  revert a
  refine Fin.forall_fin_two.mpr ⟨rfl, ?_⟩
  show k.val / 1024 * 1024 + k.val % 1024 = k.val
  omega

/-! ## The result -/

/-- What the body leaves at point `t`, row `p`, column `q`, is the mathematical result at row `1024 c + p`, column `512 t + q`. -/
theorem outAt_at (m : (ℓ : Loc nD τ sig) → Buf (Elt Ideal) ℓ) (X : Vec Ideal Cert.ReferenceIdeal.S4096x4096 .f32)
    (hX : ∀ d : Dev nD, m ((d : Thread nD τ).loc main_arg0) = Layout.block ⟨2, ![4096, 1024]⟩ ⟨2, ![4096, 4096]⟩ 1 4 d X)
    (c : Dev nD) (t : Fin cfg0.N) (p : Fin 1024) (q : Fin 512) (hp : 1024 * c.val + p.val < 4096) (hq : 512 * (pt t).val + q.val < 8192) :
    outAt m c t (ix2 p q) = entryAt X (m ((c : Thread nD τ).loc main_arg1)) (m ((c : Thread nD τ).loc main_arg2))
      (m ((c : Thread nD τ).loc main_arg3)) ⟨1024 * c.val + p.val, hp⟩ ⟨512 * (pt t).val + q.val, hq⟩ := by
  unfold outAt outBlk entryAt
  rw [pay4_at, scale_1, scale_2]
  refine congrArg (fun s => gate (s * _)) (Finset.sum_congr rfl fun k _ => ?_)
  rw [gath_at m X hX c p k hp, wblk_at m c (pt t) k q hq]

/-- The blocks of the sixteen points cover the result's array. -/
theorem covers_3 : (cfg0.win 3).Covers := by decide +kernel

/-- After the run device `c`'s result is its block of rows of the mathematical result. -/
theorem final_3 (m : (ℓ : Loc nD τ sig) → Buf (Elt Ideal) ℓ) (X : Vec Ideal Cert.ReferenceIdeal.S4096x4096 .f32)
    (hX : ∀ d : Dev nD, m ((d : Thread nD τ).loc main_arg0) = Layout.block ⟨2, ![4096, 1024]⟩ ⟨2, ![4096, 4096]⟩ 1 4 d X) (c : Dev nD) :
    finalA m c 3 = Layout.block ⟨2, ![1024, 8192]⟩ ⟨2, ![4096, 8192]⟩ 0 4 c
      (result X (m ((c : Thread nD τ).loc main_arg1)) (m ((c : Thread nD τ).loc main_arg2)) (m ((c : Thread nD τ).loc main_arg3))) := by
  refine (dats m 0 c).arrAt_eq_of_covers 3 _ covers_3 fun t _ y => ?_
  blk_simp
  rw [after_3]
  have hc : c.val < 4 := c.isLt
  have ht : (pt t).val < 16 := (pt t).isLt
  have hp : (y 0).val < 1024 := (y 0).isLt
  have hq : (y 1).val < 512 := (y 1).isLt
  have e := outAt_at m X hX c t (y 0) (y 1) (by omega) (by omega)
  have hy : y = ix2 (y 0) (y 1) := (ix2_eta (n0 := 1024) (n1 := 512) y).symm
  refine ((congrArg (outAt m c t) hy).trans e).trans ?_
  rw [Layout.block_apply]
  unfold result
  refine congrArg₂ (entryAt X _ _ _) (Fin.ext ?_) (Fin.ext ?_)
  · show 1024 * c.val + (y 0).val = c.val * 1024 + ((win0_3.blk t).view.emb y 0).val
    blk_simp [index_3]
    omega
  · show 512 * (pt t).val + (y 1).val = ((win0_3.blk t).view.emb y 1).val
    blk_simp [index_3]
    omega

/-- The claim on values: the kernel's result on each device is its block of rows of the reference's. -/
theorem algebraic : Cert.algebraic_KernelIdeal_ReferenceIdeal := by
  intro m ρ m' ρ' _ h
  refine ⟨result (m' ((0 : Dev Cert.ReferenceIdeal.nD).tc.loc Cert.ReferenceIdeal.main_arg0)) (m' ((0 : Dev Cert.ReferenceIdeal.nD).tc.loc Cert.ReferenceIdeal.main_arg1))
    (m' ((0 : Dev Cert.ReferenceIdeal.nD).tc.loc Cert.ReferenceIdeal.main_arg2)) (m' ((0 : Dev Cert.ReferenceIdeal.nD).tc.loc Cert.ReferenceIdeal.main_arg3)), ?_, ?_⟩
  · refine (θ_run defs _ _).mono (fun r hr c => ⟨(hr.1 c).1.trans ?_, (hr.1 c).2⟩) (run_arrays (F := Ideal) m ρ)
    rw [final_3 m _ (fun d => (h d).1) c, (h c).2.1, (h c).2.2.1, (h c).2.2.2]
  · exact (θ_run Cert.ReferenceIdeal.defs _ _).mono (fun r hr => hr 0) (reference_run m' ρ')

end Cert.Exchange

end
-- ==== Proof.lean ====
module

public import proofs.«01_k».proof.Proof.Gen.ReferenceIdeal.Run
public import proofs.«01_k».proof.Proof.Equation
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Exchange.frame_kernel, Cert.Exchange.frame_ideal, Cert.Exchange.frame_reference, trivial, Cert.Exchange.algebraic⟩

end Cert.Proof

end
